-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_nonneg [hPre_gates_nonneg : Cert.Pre_gates_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_gates_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_nonneg [hPre_gates_nonneg : Cert.Pre_gates_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_nonneg [hPre_gates_nonneg : Cert.Pre_gates_nonneg.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_nonneg.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_nonneg [hPre_gates_nonneg : Cert.Pre_gates_nonneg.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_nonneg.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gates_nonneg [hKernelIdeal : Cert.KernelIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gates_nonneg [hReferenceIdeal : Cert.ReferenceIdeal.Facts] [hPre_gates_nonneg : Cert.Pre_gates_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_gates_nonneg [hKernel2Ideal : Cert.Kernel2Ideal.Facts] [hPre_gates_nonneg : Cert.Pre_gates_nonneg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_nonneg m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_gates_nonneg [hReference2Ideal : Cert.Reference2Ideal.Facts] [hPre_gates_nonneg : Cert.Pre_gates_nonneg.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_nonneg m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_gates_nonneg [hKernelIdeal : Cert.KernelIdeal.Facts] [hReferenceIdeal : Cert.ReferenceIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_gates_nonneg [hKernel2Ideal : Cert.Kernel2Ideal.Facts] [hReference2Ideal : Cert.Reference2Ideal.Facts] [hPre_gates_nonneg : Cert.Pre_gates_nonneg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_nonneg m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_gates_nonneg : Cert.Pre_gates_nonneg.Facts),
    quiescent_Kernel (hKernel := hKernel)
    ∧ quiescent_KernelIdeal (hKernelIdeal := hKernelIdeal)
    ∧ quiescent_KernelIdeal_pre_gates_nonneg (hKernelIdeal := hKernelIdeal) (hPre_gates_nonneg := hPre_gates_nonneg)
    ∧ quiescent_ReferenceIdeal (hReferenceIdeal := hReferenceIdeal)
    ∧ quiescent_ReferenceIdeal_pre_gates_nonneg (hReferenceIdeal := hReferenceIdeal) (hPre_gates_nonneg := hPre_gates_nonneg)
    ∧ quiescent_Kernel2 (hKernel2 := hKernel2)
    ∧ quiescent_Kernel2Ideal (hKernel2Ideal := hKernel2Ideal)
    ∧ quiescent_Kernel2Ideal_pre_gates_nonneg (hKernel2Ideal := hKernel2Ideal) (hPre_gates_nonneg := hPre_gates_nonneg)
    ∧ quiescent_Reference2Ideal (hReference2Ideal := hReference2Ideal)
    ∧ quiescent_Reference2Ideal_pre_gates_nonneg (hReference2Ideal := hReference2Ideal) (hPre_gates_nonneg := hPre_gates_nonneg)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_gates_nonneg (hKernelIdeal := hKernelIdeal) (hReferenceIdeal := hReferenceIdeal) (hPre_gates_nonneg := hPre_gates_nonneg)
    ∧ preserves_Kernel2_Kernel2Ideal
    ∧ algebraic_Kernel2Ideal_Reference2Ideal_pre_gates_nonneg (hKernel2Ideal := hKernel2Ideal) (hReference2Ideal := hReference2Ideal) (hPre_gates_nonneg := hPre_gates_nonneg)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_gates_nonneg.lean ====
abbrev S36864x1024 : Shape := ⟨2, ![36864, 1024]⟩
abbrev S16x36864 : Shape := ⟨2, ![16, 36864]⟩
abbrev S16x1024x512 : Shape := ⟨3, ![16, 1024, 512]⟩
abbrev S16x512x1024 : Shape := ⟨3, ![16, 512, 1024]⟩
abbrev S2x16x6x1024 : Shape := ⟨4, ![2, 16, 6, 1024]⟩
abbrev S1024 : Shape := ⟨1, ![1024]⟩
abbrev S_ : Shape := ⟨0, ![]⟩

class Facts : Prop where
  bcast_S_S16x36864 : S_.BroadcastsInDim S16x36864 (![] : Fin 0 → Fin S16x36864.rank)
  reducesTo_S16x36864_S_d0_1 : S16x36864.ReducesTo [0, 1] S_
  h_S_ : 0 < S_.numel

variable [Facts]

def fn {F : FTy → Type} [FloatOps F] (main_arg0 : FVec F S36864x1024 .bf16) (main_arg1 : FVec F S16x36864 .f32) (main_arg2 : FVec F S16x1024x512 .f32) (main_arg3 : FVec F S16x1024x512 .f32) (main_arg4 : FVec F S16x512x1024 .f32) (main_arg5 : FVec F S36864x1024 .f32) (main_arg6 : FVec F S2x16x6x1024 .f32) (main_arg7 : FVec F S1024 .f32) : IVec S_ 1 :=
  let main_cst : FVec F S_ .f32 := constant S_ .f32 0x00000000#32
  let main_v0 : FVec F S16x36864 .f32 := broadcastInDim S16x36864 ![] bcast_S_S16x36864 main_cst
  let main_v1 : IVec S16x36864 1 := cmpf .oge main_arg1 main_v0
  let main_c : IVec S_ 1 := constantI S_ 1 1#1
  let main_v2 : IVec S_ 1 := (fun x v => Host.reduce IntOp.andi x v reducesTo_S16x36864_S_d0_1 h_S_) main_v1 main_c
  main_v2
-- ==== Kernel.lean ====
abbrev S36864x1024 : Shape := ⟨2, ![36864, 1024]⟩
abbrev S16x36864 : Shape := ⟨2, ![16, 36864]⟩
abbrev S16x1024x512 : Shape := ⟨3, ![16, 1024, 512]⟩
abbrev S16x512x1024 : Shape := ⟨3, ![16, 512, 1024]⟩
abbrev S2x16x6x1024 : Shape := ⟨4, ![2, 16, 6, 1024]⟩
abbrev S1024 : Shape := ⟨1, ![1024]⟩
abbrev S_ : Shape := ⟨0, ![]⟩
abbrev S1024x1024 : Shape := ⟨2, ![1024, 1024]⟩
abbrev S1x1024 : Shape := ⟨2, ![1, 1024]⟩
abbrev S4096x1024 : Shape := ⟨2, ![4096, 1024]⟩
abbrev S32768x1024 : Shape := ⟨2, ![32768, 1024]⟩
abbrev S16x1024 : Shape := ⟨2, ![16, 1024]⟩
abbrev S2x1024x512 : Shape := ⟨3, ![2, 1024, 512]⟩
abbrev S2x512x1024 : Shape := ⟨3, ![2, 512, 1024]⟩
abbrev S1x1x6x1024 : Shape := ⟨4, ![1, 1, 6, 1024]⟩
abbrev S16 : Shape := ⟨1, ![16]⟩
abbrev S1x1x1024 : Shape := ⟨3, ![1, 1, 1024]⟩
abbrev S1 : Shape := ⟨1, ![1]⟩
abbrev S1x1x1 : Shape := ⟨3, ![1, 1, 1]⟩
abbrev S160x1024 : Shape := ⟨2, ![160, 1024]⟩
abbrev S1x1024x512 : Shape := ⟨3, ![1, 1024, 512]⟩
abbrev S1024x512 : Shape := ⟨2, ![1024, 512]⟩
abbrev S160x512 : Shape := ⟨2, ![160, 512]⟩
abbrev S1x512x1024 : Shape := ⟨3, ![1, 512, 1024]⟩
abbrev S512x1024 : Shape := ⟨2, ![512, 1024]⟩
abbrev S160 : Shape := ⟨1, ![160]⟩
abbrev S160x1 : Shape := ⟨2, ![160, 1]⟩
abbrev S1x1x1x1024 : Shape := ⟨4, ![1, 1, 1, 1024]⟩
abbrev S1024x1 : Shape := ⟨2, ![1024, 1]⟩

abbrev nBuf : Space → Nat
  | .hbm => 25
  | .vmem => 22
  | .smem => 1
  | _ => 0

abbrev bufTy : (tb : Table) → Fin (tcTables nBuf tb) → BufTy
  | .hbm, ⟨0, _⟩ => ⟨S36864x1024, .bf16⟩
  | .hbm, ⟨1, _⟩ => ⟨S16x36864, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S36864x1024, .f32⟩
  | .hbm, ⟨6, _⟩ => ⟨S2x16x6x1024, .f32⟩
  | .hbm, ⟨7, _⟩ => ⟨S1024, .f32⟩
  | .hbm, ⟨8, _⟩ => ⟨S16x1024x512, .bf16⟩
  | .hbm, ⟨9, _⟩ => ⟨S16x1024x512, .bf16⟩
  | .hbm, ⟨10, _⟩ => ⟨S16x512x1024, .bf16⟩
  | .hbm, ⟨11, _⟩ => ⟨S_, .bf16⟩
  | .hbm, ⟨12, _⟩ => ⟨S1024x1024, .bf16⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S_, .bf16⟩
  | .hbm, ⟨20, _⟩ => ⟨S1024x1024, .bf16⟩
  | .hbm, ⟨21, _⟩ => ⟨S1024x1024, .bf16⟩
  | .hbm, ⟨22, _⟩ => ⟨S1x1024, .f32⟩
  | .hbm, ⟨23, _⟩ => ⟨S4096x1024, .f32⟩
  | .hbm, ⟨24, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .f32⟩
  | .local _ .vmem, ⟨3, _⟩ => ⟨S16x1024, .f32⟩
  | .local _ .vmem, ⟨4, _⟩ => ⟨S1024x1024, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S2x1024x512, .bf16⟩
  | .local _ .vmem, ⟨9, _⟩ => ⟨S2x512x1024, .bf16⟩
  | .local _ .vmem, ⟨10, _⟩ => ⟨S2x512x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1x6x1024, .f32⟩
  | .local _ .vmem, ⟨14, _⟩ => ⟨S1x1x6x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S16x1024, .f32⟩
  | .local _ .smem, ⟨0, _⟩ => ⟨S16, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![36, 8], ![false, false]⟩

def k0_off1 (i : grid0.Coords) : Fin 2 → Nat :=
  let arg1 : BitVec 32 := BitVec.ofNat 32 (i 1).val
  let c2_i32 : BitVec 32 := 2#32
  let v5 : BitVec 32 := Scalar.muli arg1 c2_i32
  let c0_i32_1 : BitVec 32 := 0#32
  let v6 : BitVec 32 := Scalar.addi v5 c0_i32_1
  let v7 : Index := Scalar.indexCast v6
  let c0 : Index := 0#32
  ![v7.toNat, 0]
def k0_off2 (i : grid0.Coords) : Fin 1 → Nat :=
  let arg1 : BitVec 32 := BitVec.ofNat 32 (i 1).val
  let c2_i32 : BitVec 32 := 2#32
  let v5 : BitVec 32 := Scalar.muli arg1 c2_i32
  let c0_i32_1 : BitVec 32 := 0#32
  let v6 : BitVec 32 := Scalar.addi v5 c0_i32_1
  let v15 : Index := Scalar.indexCast v6
  ![v15.toNat]
@[reducible] def k0_t1_loop (v16 : BitVec 32) : Scf.Loop 32 :=
  let c0_i32_12 : BitVec 32 := 0#32
  let c160_i32 : BitVec 32 := 160#32
  let v17 : BitVec 32 := Scalar.addi v16 c160_i32
  let c1_i32 : BitVec 32 := 1#32
  let v18 : BitVec 32 := Scalar.subi v17 c1_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c160_i32_4 : BitVec 32 := 160#32
  let c0_i32_7 : BitVec 32 := 0#32
  let v25 : BitVec 1 := Scalar.cmpi .sgt c160_i32_4 c0_i32_7
  let v26 : BitVec 32 := Scalar.extui v25
  let c0_i32_8 : BitVec 32 := 0#32
  let v27 : BitVec 1 := Scalar.cmpi .slt c160_i32_4 c0_i32_8
  let v28 : BitVec 32 := Scalar.extui v27
  let v29 : BitVec 32 := Scalar.subi v26 v28
  let v30 : BitVec 1 := Scalar.cmpi .ne v24 v29
  let v31 : BitVec 32 := Scalar.remsi v18 c160_i32_4
  let c0_i32_9 : BitVec 32 := 0#32
  let v32 : BitVec 1 := Scalar.cmpi .ne v31 c0_i32_9
  let v33 : BitVec 1 := Scalar.andi v30 v32
  let v19 : BitVec 32 := Scalar.divsi v18 c160_i32_4
  let c1_i32_10 : BitVec 32 := 1#32
  let v34 : BitVec 32 := Scalar.subi v19 c1_i32_10
  let v35 : BitVec 32 := Scalar.select v33 v34 v19
  let v36 : BitVec 32 := Scalar.subi v35 c0_i32_12
  let c1_i32_13 : BitVec 32 := 1#32
  let v38 : BitVec 32 := Scalar.divsi v36 c1_i32_13
  let v39 : BitVec 32 := Scalar.muli v38 c1_i32_13
  let v40 : BitVec 32 := Scalar.addi c0_i32_12 v39
  let c1_i32_14 : BitVec 32 := 1#32
  ⟨c0_i32_12, v40, c1_i32_14⟩

@[reducible] def k0_t2_loop (v16 : BitVec 32) : Scf.Loop 32 :=
  let c0_i32_12 : BitVec 32 := 0#32
  let c160_i32 : BitVec 32 := 160#32
  let v17 : BitVec 32 := Scalar.addi v16 c160_i32
  let c1_i32 : BitVec 32 := 1#32
  let v18 : BitVec 32 := Scalar.subi v17 c1_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c160_i32_4 : BitVec 32 := 160#32
  let c0_i32_7 : BitVec 32 := 0#32
  let v25 : BitVec 1 := Scalar.cmpi .sgt c160_i32_4 c0_i32_7
  let v26 : BitVec 32 := Scalar.extui v25
  let c0_i32_8 : BitVec 32 := 0#32
  let v27 : BitVec 1 := Scalar.cmpi .slt c160_i32_4 c0_i32_8
  let v28 : BitVec 32 := Scalar.extui v27
  let v29 : BitVec 32 := Scalar.subi v26 v28
  let v30 : BitVec 1 := Scalar.cmpi .ne v24 v29
  let v31 : BitVec 32 := Scalar.remsi v18 c160_i32_4
  let c0_i32_9 : BitVec 32 := 0#32
  let v32 : BitVec 1 := Scalar.cmpi .ne v31 c0_i32_9
  let v33 : BitVec 1 := Scalar.andi v30 v32
  let v19 : BitVec 32 := Scalar.divsi v18 c160_i32_4
  let c1_i32_10 : BitVec 32 := 1#32
  let v34 : BitVec 32 := Scalar.subi v19 c1_i32_10
  let v35 : BitVec 32 := Scalar.select v33 v34 v19
  let v36 : BitVec 32 := Scalar.subi v35 c0_i32_12
  let c1_i32_13 : BitVec 32 := 1#32
  let v38 : BitVec 32 := Scalar.divsi v36 c1_i32_13
  let v39 : BitVec 32 := Scalar.muli v38 c1_i32_13
  let v40 : BitVec 32 := Scalar.addi c0_i32_12 v39
  let v37 : BitVec 32 := Scalar.addi c0_i32_12 v36
  let c1_i32_15 : BitVec 32 := 1#32
  ⟨v40, v37, c1_i32_15⟩

def k0_chk1 (v16 : BitVec 32) : Prop :=
  ((k0_t1_loop v16).OK) ∧
  ((k0_t2_loop v16).OK)
theorem k0_t1_ok : ∀ (v16 : BitVec 32) (k0_hw1 : k0_chk1 v16), (k0_t1_loop v16).OK := fun v16 k0_hw1 => k0_hw1.1
theorem k0_t2_ok : ∀ (v16 : BitVec 32) (k0_hw1 : k0_chk1 v16), (k0_t2_loop v16).OK := fun v16 k0_hw1 => k0_hw1.2

def k0_off3 (i : grid0.Coords) : Fin 2 → Nat :=
  let arg1 : BitVec 32 := BitVec.ofNat 32 (i 1).val
  let c2_i32_16 : BitVec 32 := 2#32
  let v41 : BitVec 32 := Scalar.muli arg1 c2_i32_16
  let c1_i32_17 : BitVec 32 := 1#32
  let v42 : BitVec 32 := Scalar.addi v41 c1_i32_17
  let v43 : Index := Scalar.indexCast v42
  let c0_18 : Index := 0#32
  ![v43.toNat, 0]
def k0_off4 (i : grid0.Coords) : Fin 1 → Nat :=
  let arg1 : BitVec 32 := BitVec.ofNat 32 (i 1).val
  let c2_i32_16 : BitVec 32 := 2#32
  let v41 : BitVec 32 := Scalar.muli arg1 c2_i32_16
  let c1_i32_17 : BitVec 32 := 1#32
  let v42 : BitVec 32 := Scalar.addi v41 c1_i32_17
  let v51 : Index := Scalar.indexCast v42
  ![v51.toNat]
@[reducible] def k0_t3_loop (v52 : BitVec 32) : Scf.Loop 32 :=
  let c0_i32_32 : BitVec 32 := 0#32
  let c160_i32_22 : BitVec 32 := 160#32
  let v53 : BitVec 32 := Scalar.addi v52 c160_i32_22
  let c1_i32_23 : BitVec 32 := 1#32
  let v54 : BitVec 32 := Scalar.subi v53 c1_i32_23
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c160_i32_24 : BitVec 32 := 160#32
  let c0_i32_27 : BitVec 32 := 0#32
  let v61 : BitVec 1 := Scalar.cmpi .sgt c160_i32_24 c0_i32_27
  let v62 : BitVec 32 := Scalar.extui v61
  let c0_i32_28 : BitVec 32 := 0#32
  let v63 : BitVec 1 := Scalar.cmpi .slt c160_i32_24 c0_i32_28
  let v64 : BitVec 32 := Scalar.extui v63
  let v65 : BitVec 32 := Scalar.subi v62 v64
  let v66 : BitVec 1 := Scalar.cmpi .ne v60 v65
  let v67 : BitVec 32 := Scalar.remsi v54 c160_i32_24
  let c0_i32_29 : BitVec 32 := 0#32
  let v68 : BitVec 1 := Scalar.cmpi .ne v67 c0_i32_29
  let v69 : BitVec 1 := Scalar.andi v66 v68
  let v55 : BitVec 32 := Scalar.divsi v54 c160_i32_24
  let c1_i32_30 : BitVec 32 := 1#32
  let v70 : BitVec 32 := Scalar.subi v55 c1_i32_30
  let v71 : BitVec 32 := Scalar.select v69 v70 v55
  let v72 : BitVec 32 := Scalar.subi v71 c0_i32_32
  let c1_i32_33 : BitVec 32 := 1#32
  let v74 : BitVec 32 := Scalar.divsi v72 c1_i32_33
  let v75 : BitVec 32 := Scalar.muli v74 c1_i32_33
  let v76 : BitVec 32 := Scalar.addi c0_i32_32 v75
  let c1_i32_34 : BitVec 32 := 1#32
  ⟨c0_i32_32, v76, c1_i32_34⟩

@[reducible] def k0_t4_loop (v52 : BitVec 32) : Scf.Loop 32 :=
  let c0_i32_32 : BitVec 32 := 0#32
  let c160_i32_22 : BitVec 32 := 160#32
  let v53 : BitVec 32 := Scalar.addi v52 c160_i32_22
  let c1_i32_23 : BitVec 32 := 1#32
  let v54 : BitVec 32 := Scalar.subi v53 c1_i32_23
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c160_i32_24 : BitVec 32 := 160#32
  let c0_i32_27 : BitVec 32 := 0#32
  let v61 : BitVec 1 := Scalar.cmpi .sgt c160_i32_24 c0_i32_27
  let v62 : BitVec 32 := Scalar.extui v61
  let c0_i32_28 : BitVec 32 := 0#32
  let v63 : BitVec 1 := Scalar.cmpi .slt c160_i32_24 c0_i32_28
  let v64 : BitVec 32 := Scalar.extui v63
  let v65 : BitVec 32 := Scalar.subi v62 v64
  let v66 : BitVec 1 := Scalar.cmpi .ne v60 v65
  let v67 : BitVec 32 := Scalar.remsi v54 c160_i32_24
  let c0_i32_29 : BitVec 32 := 0#32
  let v68 : BitVec 1 := Scalar.cmpi .ne v67 c0_i32_29
  let v69 : BitVec 1 := Scalar.andi v66 v68
  let v55 : BitVec 32 := Scalar.divsi v54 c160_i32_24
  let c1_i32_30 : BitVec 32 := 1#32
  let v70 : BitVec 32 := Scalar.subi v55 c1_i32_30
  let v71 : BitVec 32 := Scalar.select v69 v70 v55
  let v72 : BitVec 32 := Scalar.subi v71 c0_i32_32
  let c1_i32_33 : BitVec 32 := 1#32
  let v74 : BitVec 32 := Scalar.divsi v72 c1_i32_33
  let v75 : BitVec 32 := Scalar.muli v74 c1_i32_33
  let v76 : BitVec 32 := Scalar.addi c0_i32_32 v75
  let v73 : BitVec 32 := Scalar.addi c0_i32_32 v72
  let c1_i32_35 : BitVec 32 := 1#32
  ⟨v76, v73, c1_i32_35⟩

def k0_chk2 (v52 : BitVec 32) : Prop :=
  ((k0_t3_loop v52).OK) ∧
  ((k0_t4_loop v52).OK)
theorem k0_t3_ok : ∀ (v52 : BitVec 32) (k0_hw2 : k0_chk2 v52), (k0_t3_loop v52).OK := fun v52 k0_hw2 => k0_hw2.1
theorem k0_t4_ok : ∀ (v52 : BitVec 32) (k0_hw2 : k0_chk2 v52), (k0_t4_loop v52).OK := fun v52 k0_hw2 => k0_hw2.2

def k0_cond2 (i : grid0.Coords) : BitVec 1 :=
  let arg1 : BitVec 32 := BitVec.ofNat 32 (i 1).val
  let c7_i32 : BitVec 32 := 7#32
  let v77 : BitVec 1 := Scalar.cmpi .eq arg1 c7_i32
  let v78 : BitVec 32 := Scalar.extui v77
  let c0_i32_36 : BitVec 32 := 0#32
  let v79 : BitVec 1 := Scalar.cmpi .ne v78 c0_i32_36
  v79

def k0_cond3 (i : grid0.Coords) : BitVec 1 :=
  let arg0 : BitVec 32 := BitVec.ofNat 32 (i 0).val
  let c4_i32 : BitVec 32 := 4#32
  let v101 : BitVec 1 := Scalar.cmpi .slt arg0 c4_i32
  let v102 : BitVec 32 := Scalar.extui v101
  let c0_i32_49 : BitVec 32 := 0#32
  let v103 : BitVec 1 := Scalar.cmpi .ne v102 c0_i32_49
  v103

def k0_cond4 (i : grid0.Coords) : BitVec 1 :=
  let arg0 : BitVec 32 := BitVec.ofNat 32 (i 0).val
  let c4_i32_50 : BitVec 32 := 4#32
  let v104 : BitVec 1 := Scalar.cmpi .sge arg0 c4_i32_50
  let v105 : BitVec 32 := Scalar.extui v104
  let c0_i32_51 : BitVec 32 := 0#32
  let v106 : BitVec 1 := Scalar.cmpi .ne v105 c0_i32_51
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c1_i32_8 : BitVec 32 := 1#32
  let c0_i32_9 : BitVec 32 := 0#32
  let c0_i32_10 : BitVec 32 := 0#32
  let c0_i32_11 : BitVec 32 := 0#32
  ![c1_i32_8.toNat, v20.toNat, c0_i32_9.toNat, c0_i32_10.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S36864x1024 : Shape := ⟨2, ![36864, 1024]⟩
abbrev S16x36864 : Shape := ⟨2, ![16, 36864]⟩
abbrev S16x1024x512 : Shape := ⟨3, ![16, 1024, 512]⟩
abbrev S16x512x1024 : Shape := ⟨3, ![16, 512, 1024]⟩
abbrev S2x16x6x1024 : Shape := ⟨4, ![2, 16, 6, 1024]⟩
abbrev S1024 : Shape := ⟨1, ![1024]⟩
abbrev S16x512x36864 : Shape := ⟨3, ![16, 512, 36864]⟩
abbrev S16x36864x512 : Shape := ⟨3, ![16, 36864, 512]⟩
abbrev S_ : Shape := ⟨0, ![]⟩
abbrev S16x36864x1024 : Shape := ⟨3, ![16, 36864, 1024]⟩
abbrev S16x36864x1 : Shape := ⟨3, ![16, 36864, 1]⟩
abbrev S4096x1024 : Shape := ⟨2, ![4096, 1024]⟩
abbrev S1x1x1x1024 : Shape := ⟨4, ![1, 1, 1, 1024]⟩
abbrev S1x1024 : Shape := ⟨2, ![1, 1024]⟩
abbrev S4096 : Shape := ⟨1, ![4096]⟩
abbrev S4096x1 : Shape := ⟨2, ![4096, 1]⟩
abbrev S32768x1024 : Shape := ⟨2, ![32768, 1024]⟩
abbrev S8x4096x1024 : Shape := ⟨3, ![8, 4096, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S16x36864, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S36864x1024, .f32⟩
  | .hbm, ⟨6, _⟩ => ⟨S2x16x6x1024, .f32⟩
  | .hbm, ⟨7, _⟩ => ⟨S1024, .f32⟩
  | .hbm, ⟨8, _⟩ => ⟨S36864x1024, .f32⟩
  | .hbm, ⟨9, _⟩ => ⟨S16x512x36864, .f32⟩
  | .hbm, ⟨10, _⟩ => ⟨S16x36864x512, .f32⟩
  | .hbm, ⟨11, _⟩ => ⟨S16x512x36864, .f32⟩
  | .hbm, ⟨12, _⟩ => ⟨S16x36864x512, .f32⟩
  | .hbm, ⟨13, _⟩ => ⟨S16x36864x512, .f32⟩
  | .hbm, ⟨14, _⟩ => ⟨S16x36864x512, .f32⟩
  | .hbm, ⟨15, _⟩ => ⟨S_, .f32⟩
  | .hbm, ⟨16, _⟩ => ⟨S16x36864x512, .f32⟩
  | .hbm, ⟨17, _⟩ => ⟨S16x36864x512, .f32⟩
  | .hbm, ⟨18, _⟩ => ⟨S_, .f32⟩
  | .hbm, ⟨19, _⟩ => ⟨S16x36864x512, .f32⟩
  | .hbm, ⟨20, _⟩ => ⟨S16x36864x512, .f32⟩
  | .hbm, ⟨21, _⟩ => ⟨S16x36864x512, .f32⟩
  | .hbm, ⟨22, _⟩ => ⟨S16x36864x512, .f32⟩
  | .hbm, ⟨23, _⟩ => ⟨S16x36864x1024, .f32⟩
  | .hbm, ⟨24, _⟩ => ⟨S16x36864x1, .f32⟩
  | .hbm, ⟨25, _⟩ => ⟨S16x36864x1024, .f32⟩
  | .hbm, ⟨26, _⟩ => ⟨S16x36864x1024, .f32⟩
  | .hbm, ⟨27, _⟩ => ⟨S_, .f32⟩
  | .hbm, ⟨28, _⟩ => ⟨S36864x1024, .f32⟩
  | .hbm, ⟨29, _⟩ => ⟨S4096x1024, .f32⟩
  | .hbm, ⟨30, _⟩ => ⟨S4096x1024, .f32⟩
  | .hbm, ⟨31, _⟩ => ⟨S1x1x1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S32768x1024, .f32⟩
  | .hbm, ⟨54, _⟩ => ⟨S8x4096x1024, .f32⟩
  | .hbm, ⟨55, _⟩ => ⟨S32768x1024, .f32⟩
  | .hbm, ⟨56, _⟩ => ⟨S8x4096x1024, .f32⟩
  | .hbm, ⟨57, _⟩ => ⟨S1x8x1x1024, .f32⟩
  | .hbm, ⟨58, _⟩ => ⟨S8x1024, .f32⟩
  | .hbm, ⟨59, _⟩ => ⟨S8x1x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S32768x1024, .f32⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel2.lean ====
abbrev S36864x1024 : Shape := ⟨2, ![36864, 1024]⟩
abbrev S16x36864 : Shape := ⟨2, ![16, 36864]⟩
abbrev S16x1024x512 : Shape := ⟨3, ![16, 1024, 512]⟩
abbrev S16x512x1024 : Shape := ⟨3, ![16, 512, 1024]⟩
abbrev S2x16x6x1024 : Shape := ⟨4, ![2, 16, 6, 1024]⟩
abbrev S1024 : Shape := ⟨1, ![1024]⟩
abbrev S_ : Shape := ⟨0, ![]⟩
abbrev S1024x1024 : Shape := ⟨2, ![1024, 1024]⟩
abbrev S1x1024 : Shape := ⟨2, ![1, 1024]⟩
abbrev S16x1024 : Shape := ⟨2, ![16, 1024]⟩
abbrev S2x1024x512 : Shape := ⟨3, ![2, 1024, 512]⟩
abbrev S2x512x1024 : Shape := ⟨3, ![2, 512, 1024]⟩
abbrev S1x1x6x1024 : Shape := ⟨4, ![1, 1, 6, 1024]⟩
abbrev S16 : Shape := ⟨1, ![16]⟩
abbrev S1x1x1024 : Shape := ⟨3, ![1, 1, 1024]⟩
abbrev S1 : Shape := ⟨1, ![1]⟩
abbrev S1x1x1 : Shape := ⟨3, ![1, 1, 1]⟩
abbrev S160x1024 : Shape := ⟨2, ![160, 1024]⟩
abbrev S1x1024x512 : Shape := ⟨3, ![1, 1024, 512]⟩
abbrev S1024x512 : Shape := ⟨2, ![1024, 512]⟩
abbrev S160x512 : Shape := ⟨2, ![160, 512]⟩
abbrev S1x512x1024 : Shape := ⟨3, ![1, 512, 1024]⟩
abbrev S512x1024 : Shape := ⟨2, ![512, 1024]⟩
abbrev S160 : Shape := ⟨1, ![160]⟩
abbrev S160x1 : Shape := ⟨2, ![160, 1]⟩
abbrev S1x1x1x1024 : Shape := ⟨4, ![1, 1, 1, 1024]⟩

abbrev nBuf : Space → Nat
  | .hbm => 24
  | .vmem => 20
  | .smem => 1
  | _ => 0

abbrev bufTy : (tb : Table) → Fin (tcTables nBuf tb) → BufTy
  | .hbm, ⟨0, _⟩ => ⟨S36864x1024, .bf16⟩
  | .hbm, ⟨1, _⟩ => ⟨S16x36864, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S36864x1024, .f32⟩
  | .hbm, ⟨6, _⟩ => ⟨S2x16x6x1024, .f32⟩
  | .hbm, ⟨7, _⟩ => ⟨S1024, .f32⟩
  | .hbm, ⟨8, _⟩ => ⟨S16x1024x512, .bf16⟩
  | .hbm, ⟨9, _⟩ => ⟨S16x1024x512, .bf16⟩
  | .hbm, ⟨10, _⟩ => ⟨S16x512x1024, .bf16⟩
  | .hbm, ⟨11, _⟩ => ⟨S_, .bf16⟩
  | .hbm, ⟨12, _⟩ => ⟨S1024x1024, .bf16⟩
  | .hbm, ⟨13, _⟩ => ⟨S1024x1024, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S_, .bf16⟩
  | .hbm, ⟨20, _⟩ => ⟨S1024x1024, .bf16⟩
  | .hbm, ⟨21, _⟩ => ⟨S1024x1024, .bf16⟩
  | .hbm, ⟨22, _⟩ => ⟨S1x1024, .f32⟩
  | .hbm, ⟨23, _⟩ => ⟨S36864x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .f32⟩
  | .local _ .vmem, ⟨3, _⟩ => ⟨S16x1024, .f32⟩
  | .local _ .vmem, ⟨4, _⟩ => ⟨S1024x1024, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S2x1024x512, .bf16⟩
  | .local _ .vmem, ⟨9, _⟩ => ⟨S2x512x1024, .bf16⟩
  | .local _ .vmem, ⟨10, _⟩ => ⟨S2x512x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1x6x1024, .f32⟩
  | .local _ .vmem, ⟨14, _⟩ => ⟨S1x1x6x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S16x1024, .f32⟩
  | .local _ .smem, ⟨0, _⟩ => ⟨S16, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![36, 8], ![false, false]⟩

def k0_off1 (i : grid0.Coords) : Fin 2 → Nat :=
  let arg1 : BitVec 32 := BitVec.ofNat 32 (i 1).val
  let c2_i32 : BitVec 32 := 2#32
  let v5 : BitVec 32 := Scalar.muli arg1 c2_i32
  let c0_i32_1 : BitVec 32 := 0#32
  let v6 : BitVec 32 := Scalar.addi v5 c0_i32_1
  let v7 : Index := Scalar.indexCast v6
  let c0 : Index := 0#32
  ![v7.toNat, 0]
def k0_off2 (i : grid0.Coords) : Fin 1 → Nat :=
  let arg1 : BitVec 32 := BitVec.ofNat 32 (i 1).val
  let c2_i32 : BitVec 32 := 2#32
  let v5 : BitVec 32 := Scalar.muli arg1 c2_i32
  let c0_i32_1 : BitVec 32 := 0#32
  let v6 : BitVec 32 := Scalar.addi v5 c0_i32_1
  let v15 : Index := Scalar.indexCast v6
  ![v15.toNat]
@[reducible] def k0_t1_loop (v16 : BitVec 32) : Scf.Loop 32 :=
  let c0_i32_12 : BitVec 32 := 0#32
  let c160_i32 : BitVec 32 := 160#32
  let v17 : BitVec 32 := Scalar.addi v16 c160_i32
  let c1_i32 : BitVec 32 := 1#32
  let v18 : BitVec 32 := Scalar.subi v17 c1_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c160_i32_4 : BitVec 32 := 160#32
  let c0_i32_7 : BitVec 32 := 0#32
  let v25 : BitVec 1 := Scalar.cmpi .sgt c160_i32_4 c0_i32_7
  let v26 : BitVec 32 := Scalar.extui v25
  let c0_i32_8 : BitVec 32 := 0#32
  let v27 : BitVec 1 := Scalar.cmpi .slt c160_i32_4 c0_i32_8
  let v28 : BitVec 32 := Scalar.extui v27
  let v29 : BitVec 32 := Scalar.subi v26 v28
  let v30 : BitVec 1 := Scalar.cmpi .ne v24 v29
  let v31 : BitVec 32 := Scalar.remsi v18 c160_i32_4
  let c0_i32_9 : BitVec 32 := 0#32
  let v32 : BitVec 1 := Scalar.cmpi .ne v31 c0_i32_9
  let v33 : BitVec 1 := Scalar.andi v30 v32
  let v19 : BitVec 32 := Scalar.divsi v18 c160_i32_4
  let c1_i32_10 : BitVec 32 := 1#32
  let v34 : BitVec 32 := Scalar.subi v19 c1_i32_10
  let v35 : BitVec 32 := Scalar.select v33 v34 v19
  let v36 : BitVec 32 := Scalar.subi v35 c0_i32_12
  let c1_i32_13 : BitVec 32 := 1#32
  let v38 : BitVec 32 := Scalar.divsi v36 c1_i32_13
  let v39 : BitVec 32 := Scalar.muli v38 c1_i32_13
  let v40 : BitVec 32 := Scalar.addi c0_i32_12 v39
  let c1_i32_14 : BitVec 32 := 1#32
  ⟨c0_i32_12, v40, c1_i32_14⟩

@[reducible] def k0_t2_loop (v16 : BitVec 32) : Scf.Loop 32 :=
  let c0_i32_12 : BitVec 32 := 0#32
  let c160_i32 : BitVec 32 := 160#32
  let v17 : BitVec 32 := Scalar.addi v16 c160_i32
  let c1_i32 : BitVec 32 := 1#32
  let v18 : BitVec 32 := Scalar.subi v17 c1_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c160_i32_4 : BitVec 32 := 160#32
  let c0_i32_7 : BitVec 32 := 0#32
  let v25 : BitVec 1 := Scalar.cmpi .sgt c160_i32_4 c0_i32_7
  let v26 : BitVec 32 := Scalar.extui v25
  let c0_i32_8 : BitVec 32 := 0#32
  let v27 : BitVec 1 := Scalar.cmpi .slt c160_i32_4 c0_i32_8
  let v28 : BitVec 32 := Scalar.extui v27
  let v29 : BitVec 32 := Scalar.subi v26 v28
  let v30 : BitVec 1 := Scalar.cmpi .ne v24 v29
  let v31 : BitVec 32 := Scalar.remsi v18 c160_i32_4
  let c0_i32_9 : BitVec 32 := 0#32
  let v32 : BitVec 1 := Scalar.cmpi .ne v31 c0_i32_9
  let v33 : BitVec 1 := Scalar.andi v30 v32
  let v19 : BitVec 32 := Scalar.divsi v18 c160_i32_4
  let c1_i32_10 : BitVec 32 := 1#32
  let v34 : BitVec 32 := Scalar.subi v19 c1_i32_10
  let v35 : BitVec 32 := Scalar.select v33 v34 v19
  let v36 : BitVec 32 := Scalar.subi v35 c0_i32_12
  let c1_i32_13 : BitVec 32 := 1#32
  let v38 : BitVec 32 := Scalar.divsi v36 c1_i32_13
  let v39 : BitVec 32 := Scalar.muli v38 c1_i32_13
  let v40 : BitVec 32 := Scalar.addi c0_i32_12 v39
  let v37 : BitVec 32 := Scalar.addi c0_i32_12 v36
  let c1_i32_15 : BitVec 32 := 1#32
  ⟨v40, v37, c1_i32_15⟩

def k0_chk1 (v16 : BitVec 32) : Prop :=
  ((k0_t1_loop v16).OK) ∧
  ((k0_t2_loop v16).OK)
theorem k0_t1_ok : ∀ (v16 : BitVec 32) (k0_hw1 : k0_chk1 v16), (k0_t1_loop v16).OK := fun v16 k0_hw1 => k0_hw1.1
theorem k0_t2_ok : ∀ (v16 : BitVec 32) (k0_hw1 : k0_chk1 v16), (k0_t2_loop v16).OK := fun v16 k0_hw1 => k0_hw1.2

def k0_off3 (i : grid0.Coords) : Fin 2 → Nat :=
  let arg1 : BitVec 32 := BitVec.ofNat 32 (i 1).val
  let c2_i32_16 : BitVec 32 := 2#32
  let v41 : BitVec 32 := Scalar.muli arg1 c2_i32_16
  let c1_i32_17 : BitVec 32 := 1#32
  let v42 : BitVec 32 := Scalar.addi v41 c1_i32_17
  let v43 : Index := Scalar.indexCast v42
  let c0_18 : Index := 0#32
  ![v43.toNat, 0]
def k0_off4 (i : grid0.Coords) : Fin 1 → Nat :=
  let arg1 : BitVec 32 := BitVec.ofNat 32 (i 1).val
  let c2_i32_16 : BitVec 32 := 2#32
  let v41 : BitVec 32 := Scalar.muli arg1 c2_i32_16
  let c1_i32_17 : BitVec 32 := 1#32
  let v42 : BitVec 32 := Scalar.addi v41 c1_i32_17
  let v51 : Index := Scalar.indexCast v42
  ![v51.toNat]
@[reducible] def k0_t3_loop (v52 : BitVec 32) : Scf.Loop 32 :=
  let c0_i32_32 : BitVec 32 := 0#32
  let c160_i32_22 : BitVec 32 := 160#32
  let v53 : BitVec 32 := Scalar.addi v52 c160_i32_22
  let c1_i32_23 : BitVec 32 := 1#32
  let v54 : BitVec 32 := Scalar.subi v53 c1_i32_23
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c160_i32_24 : BitVec 32 := 160#32
  let c0_i32_27 : BitVec 32 := 0#32
  let v61 : BitVec 1 := Scalar.cmpi .sgt c160_i32_24 c0_i32_27
  let v62 : BitVec 32 := Scalar.extui v61
  let c0_i32_28 : BitVec 32 := 0#32
  let v63 : BitVec 1 := Scalar.cmpi .slt c160_i32_24 c0_i32_28
  let v64 : BitVec 32 := Scalar.extui v63
  let v65 : BitVec 32 := Scalar.subi v62 v64
  let v66 : BitVec 1 := Scalar.cmpi .ne v60 v65
  let v67 : BitVec 32 := Scalar.remsi v54 c160_i32_24
  let c0_i32_29 : BitVec 32 := 0#32
  let v68 : BitVec 1 := Scalar.cmpi .ne v67 c0_i32_29
  let v69 : BitVec 1 := Scalar.andi v66 v68
  let v55 : BitVec 32 := Scalar.divsi v54 c160_i32_24
  let c1_i32_30 : BitVec 32 := 1#32
  let v70 : BitVec 32 := Scalar.subi v55 c1_i32_30
  let v71 : BitVec 32 := Scalar.select v69 v70 v55
  let v72 : BitVec 32 := Scalar.subi v71 c0_i32_32
  let c1_i32_33 : BitVec 32 := 1#32
  let v74 : BitVec 32 := Scalar.divsi v72 c1_i32_33
  let v75 : BitVec 32 := Scalar.muli v74 c1_i32_33
  let v76 : BitVec 32 := Scalar.addi c0_i32_32 v75
  let c1_i32_34 : BitVec 32 := 1#32
  ⟨c0_i32_32, v76, c1_i32_34⟩

@[reducible] def k0_t4_loop (v52 : BitVec 32) : Scf.Loop 32 :=
  let c0_i32_32 : BitVec 32 := 0#32
  let c160_i32_22 : BitVec 32 := 160#32
  let v53 : BitVec 32 := Scalar.addi v52 c160_i32_22
  let c1_i32_23 : BitVec 32 := 1#32
  let v54 : BitVec 32 := Scalar.subi v53 c1_i32_23
  let c0_i32_25 : BitVec 32 := 0#32
  let v56 : BitVec 1 := Scalar.cmpi .sgt v54 c0_i32_25
  let v57 : BitVec 32 := Scalar.extui v56
  let c0_i32_26 : BitVec 32 := 0#32
  let v58 : BitVec 1 := Scalar.cmpi .slt v54 c0_i32_26
  let v59 : BitVec 32 := Scalar.extui v58
  let v60 : BitVec 32 := Scalar.subi v57 v59
  let c160_i32_24 : BitVec 32 := 160#32
  let c0_i32_27 : BitVec 32 := 0#32
  let v61 : BitVec 1 := Scalar.cmpi .sgt c160_i32_24 c0_i32_27
  let v62 : BitVec 32 := Scalar.extui v61
  let c0_i32_28 : BitVec 32 := 0#32
  let v63 : BitVec 1 := Scalar.cmpi .slt c160_i32_24 c0_i32_28
  let v64 : BitVec 32 := Scalar.extui v63
  let v65 : BitVec 32 := Scalar.subi v62 v64
  let v66 : BitVec 1 := Scalar.cmpi .ne v60 v65
  let v67 : BitVec 32 := Scalar.remsi v54 c160_i32_24
  let c0_i32_29 : BitVec 32 := 0#32
  let v68 : BitVec 1 := Scalar.cmpi .ne v67 c0_i32_29
  let v69 : BitVec 1 := Scalar.andi v66 v68
  let v55 : BitVec 32 := Scalar.divsi v54 c160_i32_24
  let c1_i32_30 : BitVec 32 := 1#32
  let v70 : BitVec 32 := Scalar.subi v55 c1_i32_30
  let v71 : BitVec 32 := Scalar.select v69 v70 v55
  let v72 : BitVec 32 := Scalar.subi v71 c0_i32_32
  let c1_i32_33 : BitVec 32 := 1#32
  let v74 : BitVec 32 := Scalar.divsi v72 c1_i32_33
  let v75 : BitVec 32 := Scalar.muli v74 c1_i32_33
  let v76 : BitVec 32 := Scalar.addi c0_i32_32 v75
  let v73 : BitVec 32 := Scalar.addi c0_i32_32 v72
  let c1_i32_35 : BitVec 32 := 1#32
  ⟨v76, v73, c1_i32_35⟩

def k0_chk2 (v52 : BitVec 32) : Prop :=
  ((k0_t3_loop v52).OK) ∧
  ((k0_t4_loop v52).OK)
theorem k0_t3_ok : ∀ (v52 : BitVec 32) (k0_hw2 : k0_chk2 v52), (k0_t3_loop v52).OK := fun v52 k0_hw2 => k0_hw2.1
theorem k0_t4_ok : ∀ (v52 : BitVec 32) (k0_hw2 : k0_chk2 v52), (k0_t4_loop v52).OK := fun v52 k0_hw2 => k0_hw2.2

def k0_cond2 (i : grid0.Coords) : BitVec 1 :=
  let arg1 : BitVec 32 := BitVec.ofNat 32 (i 1).val
  let c7_i32 : BitVec 32 := 7#32
  let v77 : BitVec 1 := Scalar.cmpi .eq arg1 c7_i32
  let v78 : BitVec 32 := Scalar.extui v77
  let c0_i32_36 : BitVec 32 := 0#32
  let v79 : BitVec 1 := Scalar.cmpi .ne v78 c0_i32_36
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c4_i32_1 : BitVec 32 := 4#32
  let v2 : BitVec 32 := Scalar.divsi v1 c4_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_1 c0_i32_3
  let v9 : BitVec 32 := Scalar.extui v8
  let c0_i32_4 : BitVec 32 := 0#32
  let v10 : BitVec 1 := Scalar.cmpi .slt c4_i32_1 c0_i32_4
  let v11 : BitVec 32 := Scalar.extui v10
  let v12 : BitVec 32 := Scalar.subi v9 v11
  let v13 : BitVec 1 := Scalar.cmpi .ne v7 v12
  let v14 : BitVec 32 := Scalar.remsi v1 c4_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  let c0_i32_11 : BitVec 32 := 0#32
  ![c0_i32_8.toNat, v20.toNat, c0_i32_9.toNat, c0_i32_10.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S36864x1024 : Shape := ⟨2, ![36864, 1024]⟩
abbrev S16x36864 : Shape := ⟨2, ![16, 36864]⟩
abbrev S16x1024x512 : Shape := ⟨3, ![16, 1024, 512]⟩
abbrev S16x512x1024 : Shape := ⟨3, ![16, 512, 1024]⟩
abbrev S2x16x6x1024 : Shape := ⟨4, ![2, 16, 6, 1024]⟩
abbrev S1024 : Shape := ⟨1, ![1024]⟩
abbrev S16x512x36864 : Shape := ⟨3, ![16, 512, 36864]⟩
abbrev S16x36864x512 : Shape := ⟨3, ![16, 36864, 512]⟩
abbrev S_ : Shape := ⟨0, ![]⟩
abbrev S16x36864x1024 : Shape := ⟨3, ![16, 36864, 1024]⟩
abbrev S16x36864x1 : Shape := ⟨3, ![16, 36864, 1]⟩
abbrev S1x9x1x1024 : Shape := ⟨4, ![1, 9, 1, 1024]⟩
abbrev S9x1024 : Shape := ⟨2, ![9, 1024]⟩
abbrev S9x1x1024 : Shape := ⟨3, ![9, 1, 1024]⟩
abbrev S9x4096x1024 : Shape := ⟨3, ![9, 4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S16x36864, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S36864x1024, .f32⟩
  | .hbm, ⟨6, _⟩ => ⟨S2x16x6x1024, .f32⟩
  | .hbm, ⟨7, _⟩ => ⟨S1024, .f32⟩
  | .hbm, ⟨8, _⟩ => ⟨S36864x1024, .f32⟩
  | .hbm, ⟨9, _⟩ => ⟨S16x512x36864, .f32⟩
  | .hbm, ⟨10, _⟩ => ⟨S16x36864x512, .f32⟩
  | .hbm, ⟨11, _⟩ => ⟨S16x512x36864, .f32⟩
  | .hbm, ⟨12, _⟩ => ⟨S16x36864x512, .f32⟩
  | .hbm, ⟨13, _⟩ => ⟨S16x36864x512, .f32⟩
  | .hbm, ⟨14, _⟩ => ⟨S16x36864x512, .f32⟩
  | .hbm, ⟨15, _⟩ => ⟨S_, .f32⟩
  | .hbm, ⟨16, _⟩ => ⟨S16x36864x512, .f32⟩
  | .hbm, ⟨17, _⟩ => ⟨S16x36864x512, .f32⟩
  | .hbm, ⟨18, _⟩ => ⟨S_, .f32⟩
  | .hbm, ⟨19, _⟩ => ⟨S16x36864x512, .f32⟩
  | .hbm, ⟨20, _⟩ => ⟨S16x36864x512, .f32⟩
  | .hbm, ⟨21, _⟩ => ⟨S16x36864x512, .f32⟩
  | .hbm, ⟨22, _⟩ => ⟨S16x36864x512, .f32⟩
  | .hbm, ⟨23, _⟩ => ⟨S16x36864x1024, .f32⟩
  | .hbm, ⟨24, _⟩ => ⟨S16x36864x1, .f32⟩
  | .hbm, ⟨25, _⟩ => ⟨S16x36864x1024, .f32⟩
  | .hbm, ⟨26, _⟩ => ⟨S16x36864x1024, .f32⟩
  | .hbm, ⟨27, _⟩ => ⟨S_, .f32⟩
  | .hbm, ⟨28, _⟩ => ⟨S36864x1024, .f32⟩
  | .hbm, ⟨29, _⟩ => ⟨S1x9x1x1024, .f32⟩
  | .hbm, ⟨30, _⟩ => ⟨S9x1024, .f32⟩
  | .hbm, ⟨31, _⟩ => ⟨S9x1x1024, .f32⟩
  | .hbm, ⟨32, _⟩ => ⟨S9x4096x1024, .f32⟩
  | .hbm, ⟨33, _⟩ => ⟨S9x4096x1024, .f32⟩
  | .hbm, ⟨34, _⟩ => ⟨S9x4096x1024, .f32⟩
  | .hbm, ⟨35, _⟩ => ⟨S9x4096x1024, .f32⟩
  | .hbm, ⟨36, _⟩ => ⟨S9x4096x1024, .f32⟩
  | .hbm, ⟨37, _⟩ => ⟨S36864x1024, .f32⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel3.lean ====
abbrev S36864x1024 : Shape := ⟨2, ![36864, 1024]⟩
abbrev S2x16x6x1024 : Shape := ⟨4, ![2, 16, 6, 1024]⟩
abbrev S2x2x1024 : Shape := ⟨3, ![2, 2, 1024]⟩
abbrev S1x1024x5184 : Shape := ⟨3, ![1, 1024, 5184]⟩
abbrev S64 : Shape := ⟨1, ![64]⟩
abbrev S1024x5184 : Shape := ⟨2, ![1024, 5184]⟩
abbrev S1024x5120 : Shape := ⟨2, ![1024, 5120]⟩
abbrev S1024x64 : Shape := ⟨2, ![1024, 64]⟩
abbrev S_ : Shape := ⟨0, ![]⟩
abbrev S64x1 : Shape := ⟨2, ![64, 1]⟩
abbrev S64x1024 : Shape := ⟨2, ![64, 1024]⟩
abbrev S1x1x1024 : Shape := ⟨3, ![1, 1, 1024]⟩
abbrev S1024 : Shape := ⟨1, ![1024]⟩
abbrev S1x1024 : Shape := ⟨2, ![1, 1024]⟩
abbrev S36864x5120 : Shape := ⟨2, ![36864, 5120]⟩
abbrev S64x36864 : Shape := ⟨2, ![64, 36864]⟩
abbrev S512x1024 : Shape := ⟨2, ![512, 1024]⟩
abbrev S1x1x6x1024 : Shape := ⟨4, ![1, 1, 6, 1024]⟩
abbrev S512x5120 : Shape := ⟨2, ![512, 5120]⟩
abbrev S64x512 : Shape := ⟨2, ![64, 512]⟩
abbrev S512 : Shape := ⟨1, ![512]⟩
abbrev S512x1 : Shape := ⟨2, ![512, 1]⟩
abbrev S1x1x1x1024 : Shape := ⟨4, ![1, 1, 1, 1024]⟩
abbrev S1024x1024 : Shape := ⟨2, ![1024, 1024]⟩

abbrev nBuf : Space → Nat
  | .hbm => 25
  | .vmem => 11
  | .smem => 0
  | _ => 0

abbrev bufTy : (tb : Table) → Fin (tcTables nBuf tb) → BufTy
  | .hbm, ⟨0, _⟩ => ⟨S36864x1024, .f32⟩
  | .hbm, ⟨1, _⟩ => ⟨S2x16x6x1024, .f32⟩
  | .hbm, ⟨2, _⟩ => ⟨S2x2x1024, .f32⟩
  | .hbm, ⟨3, _⟩ => ⟨S1x1024x5184, .f32⟩
  | .hbm, ⟨4, _⟩ => ⟨S64, .i32⟩
  | .hbm, ⟨5, _⟩ => ⟨S1024x5184, .f32⟩
  | .hbm, ⟨6, _⟩ => ⟨S1024x5120, .f32⟩
  | .hbm, ⟨7, _⟩ => ⟨S1024x5120, .bf16⟩
  | .hbm, ⟨8, _⟩ => ⟨S1024x64, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S1024x64, .f32⟩
  | .hbm, ⟨18, _⟩ => ⟨S64x1024, .f32⟩
  | .hbm, ⟨19, _⟩ => ⟨S64x1024, .bf16⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S36864x5120, .bf16⟩
  | .hbm, ⟨24, _⟩ => ⟨S64x36864, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x5120, .bf16⟩
  | .local _ .vmem, ⟨6, _⟩ => ⟨S64x1024, .bf16⟩
  | .local _ .vmem, ⟨7, _⟩ => ⟨S512x5120, .bf16⟩
  | .local _ .vmem, ⟨8, _⟩ => ⟨S512x5120, .bf16⟩
  | .local _ .vmem, ⟨9, _⟩ => ⟨S64x512, .f32⟩
  | .local _ .vmem, ⟨10, _⟩ => ⟨S64x512, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  let c0_i32_11 : BitVec 32 := 0#32
  ![c0_i32_8.toNat, v20.toNat, c0_i32_9.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S36864x1024 : Shape := ⟨2, ![36864, 1024]⟩
abbrev S2x16x6x1024 : Shape := ⟨4, ![2, 16, 6, 1024]⟩
abbrev S2x2x1024 : Shape := ⟨3, ![2, 2, 1024]⟩
abbrev S1x1024x5184 : Shape := ⟨3, ![1, 1024, 5184]⟩
abbrev S1x1x1024 : Shape := ⟨3, ![1, 1, 1024]⟩
abbrev S1024 : Shape := ⟨1, ![1024]⟩
abbrev S1x16x6x1024 : Shape := ⟨4, ![1, 16, 6, 1024]⟩
abbrev S16x6x1024 : Shape := ⟨3, ![16, 6, 1024]⟩
abbrev S9x4096x1024 : Shape := ⟨3, ![9, 4096, 1024]⟩
abbrev S_ : Shape := ⟨0, ![]⟩
abbrev S9x4096 : Shape := ⟨2, ![9, 4096]⟩
abbrev S9x4096x1 : Shape := ⟨3, ![9, 4096, 1]⟩
abbrev S9x1x1024 : Shape := ⟨3, ![9, 1, 1024]⟩
abbrev S9x1024 : Shape := ⟨2, ![9, 1024]⟩
abbrev S1024x5184 : Shape := ⟨2, ![1024, 5184]⟩
abbrev S36864x5184 : Shape := ⟨2, ![36864, 5184]⟩
abbrev S36864x64 : Shape := ⟨2, ![36864, 64]⟩
abbrev S36864x2x4x8 : Shape := ⟨4, ![36864, 2, 4, 8]⟩
abbrev S36864x5120 : Shape := ⟨2, ![36864, 5120]⟩
abbrev S4x2x8x36864 : Shape := ⟨4, ![4, 2, 8, 36864]⟩
abbrev S64x36864 : Shape := ⟨2, ![64, 36864]⟩

abbrev nBuf : Space → Nat
  | .hbm => 47
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S2x16x6x1024, .f32⟩
  | .hbm, ⟨2, _⟩ => ⟨S2x2x1024, .f32⟩
  | .hbm, ⟨3, _⟩ => ⟨S1x1024x5184, .f32⟩
  | .hbm, ⟨4, _⟩ => ⟨S1x1x1024, .f32⟩
  | .hbm, ⟨5, _⟩ => ⟨S1024, .f32⟩
  | .hbm, ⟨6, _⟩ => ⟨S1x16x6x1024, .f32⟩
  | .hbm, ⟨7, _⟩ => ⟨S16x6x1024, .f32⟩
  | .hbm, ⟨8, _⟩ => ⟨S9x4096x1024, .f32⟩
  | .hbm, ⟨9, _⟩ => ⟨S9x4096x1024, .f32⟩
  | .hbm, ⟨10, _⟩ => ⟨S_, .f32⟩
  | .hbm, ⟨11, _⟩ => ⟨S9x4096, .f32⟩
  | .hbm, ⟨12, _⟩ => ⟨S9x4096x1, .f32⟩
  | .hbm, ⟨13, _⟩ => ⟨S_, .f32⟩
  | .hbm, ⟨14, _⟩ => ⟨S9x4096x1, .f32⟩
  | .hbm, ⟨15, _⟩ => ⟨S9x4096x1, .f32⟩
  | .hbm, ⟨16, _⟩ => ⟨S_, .f32⟩
  | .hbm, ⟨17, _⟩ => ⟨S9x4096x1, .f32⟩
  | .hbm, ⟨18, _⟩ => ⟨S9x4096x1, .f32⟩
  | .hbm, ⟨19, _⟩ => ⟨S9x4096x1, .f32⟩
  | .hbm, ⟨20, _⟩ => ⟨S9x4096x1024, .f32⟩
  | .hbm, ⟨21, _⟩ => ⟨S9x4096x1024, .f32⟩
  | .hbm, ⟨22, _⟩ => ⟨S1x1x1024, .f32⟩
  | .hbm, ⟨23, _⟩ => ⟨S9x4096x1024, .f32⟩
  | .hbm, ⟨24, _⟩ => ⟨S9x4096x1024, .f32⟩
  | .hbm, ⟨25, _⟩ => ⟨S9x1x1024, .f32⟩
  | .hbm, ⟨26, _⟩ => ⟨S9x1024, .f32⟩
  | .hbm, ⟨27, _⟩ => ⟨S9x1x1024, .f32⟩
  | .hbm, ⟨28, _⟩ => ⟨S_, .f32⟩
  | .hbm, ⟨29, _⟩ => ⟨S9x1x1024, .f32⟩
  | .hbm, ⟨30, _⟩ => ⟨S9x1x1024, .f32⟩
  | .hbm, ⟨31, _⟩ => ⟨S9x4096x1024, .f32⟩
  | .hbm, ⟨32, _⟩ => ⟨S9x4096x1024, .f32⟩
  | .hbm, ⟨33, _⟩ => ⟨S9x1x1024, .f32⟩
  | .hbm, ⟨34, _⟩ => ⟨S9x1024, .f32⟩
  | .hbm, ⟨35, _⟩ => ⟨S9x1x1024, .f32⟩
  | .hbm, ⟨36, _⟩ => ⟨S9x4096x1024, .f32⟩
  | .hbm, ⟨37, _⟩ => ⟨S9x4096x1024, .f32⟩
  | .hbm, ⟨38, _⟩ => ⟨S36864x1024, .f32⟩
  | .hbm, ⟨39, _⟩ => ⟨S1024x5184, .f32⟩
  | .hbm, ⟨40, _⟩ => ⟨S36864x5184, .f32⟩
  | .hbm, ⟨41, _⟩ => ⟨S36864x64, .f32⟩
  | .hbm, ⟨42, _⟩ => ⟨S36864x2x4x8, .f32⟩
  | .hbm, ⟨43, _⟩ => ⟨S36864x5120, .f32⟩
  | .hbm, ⟨44, _⟩ => ⟨S36864x5120, .bf16⟩
  | .hbm, ⟨45, _⟩ => ⟨S4x2x8x36864, .f32⟩
  | .hbm, ⟨46, _⟩ => ⟨S64x36864, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel4.lean ====
abbrev S36864x1024 : Shape := ⟨2, ![36864, 1024]⟩
abbrev S2x16x6x1024 : Shape := ⟨4, ![2, 16, 6, 1024]⟩
abbrev S2x2x1024 : Shape := ⟨3, ![2, 2, 1024]⟩
abbrev S1x1024x6208 : Shape := ⟨3, ![1, 1024, 6208]⟩
abbrev S64 : Shape := ⟨1, ![64]⟩
abbrev S1024x6208 : Shape := ⟨2, ![1024, 6208]⟩
abbrev S1024x6144 : Shape := ⟨2, ![1024, 6144]⟩
abbrev S1024x64 : Shape := ⟨2, ![1024, 64]⟩
abbrev S_ : Shape := ⟨0, ![]⟩
abbrev S64x1 : Shape := ⟨2, ![64, 1]⟩
abbrev S64x1024 : Shape := ⟨2, ![64, 1024]⟩
abbrev S1x1x1024 : Shape := ⟨3, ![1, 1, 1024]⟩
abbrev S1024 : Shape := ⟨1, ![1024]⟩
abbrev S1x1024 : Shape := ⟨2, ![1, 1024]⟩
abbrev S36864x6144 : Shape := ⟨2, ![36864, 6144]⟩
abbrev S64x36864 : Shape := ⟨2, ![64, 36864]⟩
abbrev S512x1024 : Shape := ⟨2, ![512, 1024]⟩
abbrev S1x1x6x1024 : Shape := ⟨4, ![1, 1, 6, 1024]⟩
abbrev S512x6144 : Shape := ⟨2, ![512, 6144]⟩
abbrev S64x512 : Shape := ⟨2, ![64, 512]⟩
abbrev S512 : Shape := ⟨1, ![512]⟩
abbrev S512x1 : Shape := ⟨2, ![512, 1]⟩
abbrev S1x1x1x1024 : Shape := ⟨4, ![1, 1, 1, 1024]⟩
abbrev S1024x1024 : Shape := ⟨2, ![1024, 1024]⟩

abbrev nBuf : Space → Nat
  | .hbm => 25
  | .vmem => 11
  | .smem => 0
  | _ => 0

abbrev bufTy : (tb : Table) → Fin (tcTables nBuf tb) → BufTy
  | .hbm, ⟨0, _⟩ => ⟨S36864x1024, .f32⟩
  | .hbm, ⟨1, _⟩ => ⟨S2x16x6x1024, .f32⟩
  | .hbm, ⟨2, _⟩ => ⟨S2x2x1024, .f32⟩
  | .hbm, ⟨3, _⟩ => ⟨S1x1024x6208, .f32⟩
  | .hbm, ⟨4, _⟩ => ⟨S64, .i32⟩
  | .hbm, ⟨5, _⟩ => ⟨S1024x6208, .f32⟩
  | .hbm, ⟨6, _⟩ => ⟨S1024x6144, .f32⟩
  | .hbm, ⟨7, _⟩ => ⟨S1024x6144, .bf16⟩
  | .hbm, ⟨8, _⟩ => ⟨S1024x64, .f32⟩
  | .hbm, ⟨9, _⟩ => ⟨S_, .i32⟩
  | .hbm, ⟨10, _⟩ => ⟨S64, .i32⟩
  | .hbm, ⟨11, _⟩ => ⟨S64, .i1⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S1024x64, .f32⟩
  | .hbm, ⟨18, _⟩ => ⟨S64x1024, .f32⟩
  | .hbm, ⟨19, _⟩ => ⟨S64x1024, .bf16⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S36864x6144, .bf16⟩
  | .hbm, ⟨24, _⟩ => ⟨S64x36864, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x6144, .bf16⟩
  | .local _ .vmem, ⟨6, _⟩ => ⟨S64x1024, .bf16⟩
  | .local _ .vmem, ⟨7, _⟩ => ⟨S512x6144, .bf16⟩
  | .local _ .vmem, ⟨8, _⟩ => ⟨S512x6144, .bf16⟩
  | .local _ .vmem, ⟨9, _⟩ => ⟨S64x512, .f32⟩
  | .local _ .vmem, ⟨10, _⟩ => ⟨S64x512, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let v2 : BitVec 32 := Scalar.divsi v1 c8_i32_1
  let c0_i32 : BitVec 32 := 0#32
  let v3 : BitVec 1 := Scalar.cmpi .sgt v1 c0_i32
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_1 c0_i32_3
  let v9 : BitVec 32 := Scalar.extui v8
  let c0_i32_4 : BitVec 32 := 0#32
  let v10 : BitVec 1 := Scalar.cmpi .slt c8_i32_1 c0_i32_4
  let v11 : BitVec 32 := Scalar.extui v10
  let v12 : BitVec 32 := Scalar.subi v9 v11
  let v13 : BitVec 1 := Scalar.cmpi .ne v7 v12
  let v14 : BitVec 32 := Scalar.remsi v1 c8_i32_1
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c1_i32_8 : BitVec 32 := 1#32
  let c0_i32_9 : BitVec 32 := 0#32
  let c0_i32_10 : BitVec 32 := 0#32
  let c0_i32_11 : BitVec 32 := 0#32
  ![c1_i32_8.toNat, v20.toNat, c0_i32_9.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S36864x1024 : Shape := ⟨2, ![36864, 1024]⟩
abbrev S2x16x6x1024 : Shape := ⟨4, ![2, 16, 6, 1024]⟩
abbrev S2x2x1024 : Shape := ⟨3, ![2, 2, 1024]⟩
abbrev S1x1024x6208 : Shape := ⟨3, ![1, 1024, 6208]⟩
abbrev S1x1x1024 : Shape := ⟨3, ![1, 1, 1024]⟩
abbrev S1024 : Shape := ⟨1, ![1024]⟩
abbrev S1x16x6x1024 : Shape := ⟨4, ![1, 16, 6, 1024]⟩
abbrev S16x6x1024 : Shape := ⟨3, ![16, 6, 1024]⟩
abbrev S9x4096x1024 : Shape := ⟨3, ![9, 4096, 1024]⟩
abbrev S_ : Shape := ⟨0, ![]⟩
abbrev S9x4096 : Shape := ⟨2, ![9, 4096]⟩
abbrev S9x4096x1 : Shape := ⟨3, ![9, 4096, 1]⟩
abbrev S9x1x1024 : Shape := ⟨3, ![9, 1, 1024]⟩
abbrev S9x1024 : Shape := ⟨2, ![9, 1024]⟩
abbrev S1024x6208 : Shape := ⟨2, ![1024, 6208]⟩
abbrev S36864x6208 : Shape := ⟨2, ![36864, 6208]⟩
abbrev S36864x64 : Shape := ⟨2, ![36864, 64]⟩
abbrev S36864x2x2x8x2 : Shape := ⟨5, ![36864, 2, 2, 8, 2]⟩
abbrev S36864x6144 : Shape := ⟨2, ![36864, 6144]⟩
abbrev S8x2x2x2x36864 : Shape := ⟨5, ![8, 2, 2, 2, 36864]⟩
abbrev S64x36864 : Shape := ⟨2, ![64, 36864]⟩

abbrev nBuf : Space → Nat
  | .hbm => 47
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S2x16x6x1024, .f32⟩
  | .hbm, ⟨2, _⟩ => ⟨S2x2x1024, .f32⟩
  | .hbm, ⟨3, _⟩ => ⟨S1x1024x6208, .f32⟩
  | .hbm, ⟨4, _⟩ => ⟨S1x1x1024, .f32⟩
  | .hbm, ⟨5, _⟩ => ⟨S1024, .f32⟩
  | .hbm, ⟨6, _⟩ => ⟨S1x16x6x1024, .f32⟩
  | .hbm, ⟨7, _⟩ => ⟨S16x6x1024, .f32⟩
  | .hbm, ⟨8, _⟩ => ⟨S9x4096x1024, .f32⟩
  | .hbm, ⟨9, _⟩ => ⟨S9x4096x1024, .f32⟩
  | .hbm, ⟨10, _⟩ => ⟨S_, .f32⟩
  | .hbm, ⟨11, _⟩ => ⟨S9x4096, .f32⟩
  | .hbm, ⟨12, _⟩ => ⟨S9x4096x1, .f32⟩
  | .hbm, ⟨13, _⟩ => ⟨S_, .f32⟩
  | .hbm, ⟨14, _⟩ => ⟨S9x4096x1, .f32⟩
  | .hbm, ⟨15, _⟩ => ⟨S9x4096x1, .f32⟩
  | .hbm, ⟨16, _⟩ => ⟨S_, .f32⟩
  | .hbm, ⟨17, _⟩ => ⟨S9x4096x1, .f32⟩
  | .hbm, ⟨18, _⟩ => ⟨S9x4096x1, .f32⟩
  | .hbm, ⟨19, _⟩ => ⟨S9x4096x1, .f32⟩
  | .hbm, ⟨20, _⟩ => ⟨S9x4096x1024, .f32⟩
  | .hbm, ⟨21, _⟩ => ⟨S9x4096x1024, .f32⟩
  | .hbm, ⟨22, _⟩ => ⟨S1x1x1024, .f32⟩
  | .hbm, ⟨23, _⟩ => ⟨S9x4096x1024, .f32⟩
  | .hbm, ⟨24, _⟩ => ⟨S9x4096x1024, .f32⟩
  | .hbm, ⟨25, _⟩ => ⟨S9x1x1024, .f32⟩
  | .hbm, ⟨26, _⟩ => ⟨S9x1024, .f32⟩
  | .hbm, ⟨27, _⟩ => ⟨S9x1x1024, .f32⟩
  | .hbm, ⟨28, _⟩ => ⟨S_, .f32⟩
  | .hbm, ⟨29, _⟩ => ⟨S9x1x1024, .f32⟩
  | .hbm, ⟨30, _⟩ => ⟨S9x1x1024, .f32⟩
  | .hbm, ⟨31, _⟩ => ⟨S9x4096x1024, .f32⟩
  | .hbm, ⟨32, _⟩ => ⟨S9x4096x1024, .f32⟩
  | .hbm, ⟨33, _⟩ => ⟨S9x1x1024, .f32⟩
  | .hbm, ⟨34, _⟩ => ⟨S9x1024, .f32⟩
  | .hbm, ⟨35, _⟩ => ⟨S9x1x1024, .f32⟩
  | .hbm, ⟨36, _⟩ => ⟨S9x4096x1024, .f32⟩
  | .hbm, ⟨37, _⟩ => ⟨S9x4096x1024, .f32⟩
  | .hbm, ⟨38, _⟩ => ⟨S36864x1024, .f32⟩
  | .hbm, ⟨39, _⟩ => ⟨S1024x6208, .f32⟩
  | .hbm, ⟨40, _⟩ => ⟨S36864x6208, .f32⟩
  | .hbm, ⟨41, _⟩ => ⟨S36864x64, .f32⟩
  | .hbm, ⟨42, _⟩ => ⟨S36864x2x2x8x2, .f32⟩
  | .hbm, ⟨43, _⟩ => ⟨S36864x6144, .f32⟩
  | .hbm, ⟨44, _⟩ => ⟨S36864x6144, .bf16⟩
  | .hbm, ⟨45, _⟩ => ⟨S8x2x2x2x36864, .f32⟩
  | .hbm, ⟨46, _⟩ => ⟨S64x36864, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel5.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S2x6144x16, .f32⟩
  | .hbm, ⟨18, _⟩ => ⟨S2x16x6144, .f32⟩
  | .hbm, ⟨19, _⟩ => ⟨S2x1x6144, .f32⟩
  | .hbm, ⟨20, _⟩ => ⟨S2x16x6144, .f32⟩
  | .hbm, ⟨21, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Checks.lean ====
/-
  The run-time bounds of the two expert loops.

  Each expert's loop counts ceil(count / 160) blocks of 160 tokens, where `count` is the number of tokens routed to it, a word
  read from scalar memory. The machine asks that a counted loop's step be positive and that its variable not wrap; both hold
  whatever the word, since the step is one. For a count of at most 1024 the number of trips is the rounded-up quotient. The loop
  printed behind each (the remainder of an unrolling by one) makes no trip.
-/
module

public import proofs.«01_k».proof.Proof.Gen.KernelIdeal
public import Idealize.ShloMosaic.Lib.LoopRemainder

@[expose] public section

noncomputable section

namespace Cert.KernelIdeal.Moe

open Idealize.ShloMosaic Cert.KernelIdeal

/-- A loop by steps of one has a meaning whatever its bounds. -/
theorem ok_step_one (a b : BitVec 32) : Scf.OK a b 1#32 := by
  have h1 : (1#32 : BitVec 32).toInt = 1 := by decide
  have ha := BitVec.toInt_lt (x := a)
  have hb := BitVec.toInt_lt (x := b)
  unfold Scf.OK Scf.trips
  rw [h1]
  refine ⟨by decide, ?_⟩
  omega

/-- The first expert's loops have a meaning whatever the count. -/
theorem chk1_all (v : BitVec 32) : k0_chk1 v := ⟨ok_step_one _ _, ok_step_one _ _⟩

/-- The second expert's loops have a meaning whatever the count. -/
theorem chk2_all (v : BitVec 32) : k0_chk2 v := ⟨ok_step_one _ _, ok_step_one _ _⟩

/-- The first expert's loop makes ceil(n / 160) trips for a count n ≤ 1024. -/
theorem trips_t1 (n : ℕ) (h : n ≤ 1024) : (k0_t1_loop (BitVec.ofNat 32 n)).trips = (n + 159) / 160 := by
  have key : ∀ n : Fin 1025, (k0_t1_loop (BitVec.ofNat 32 n.val)).trips = (n.val + 159) / 160 := by decide +kernel
  exact key ⟨n, by omega⟩

/-- The second expert's loop makes ceil(n / 160) trips for a count n ≤ 1024. -/
theorem trips_t3 (n : ℕ) (h : n ≤ 1024) : (k0_t3_loop (BitVec.ofNat 32 n)).trips = (n + 159) / 160 := by
  have key : ∀ n : Fin 1025, (k0_t3_loop (BitVec.ofNat 32 n.val)).trips = (n.val + 159) / 160 := by decide +kernel
  exact key ⟨n, by omega⟩

end Cert.KernelIdeal.Moe

end
-- ==== Proof.Blocks.lean ====
/-
  One block of an expert's loop, and what the loop leaves.

  A block is 160 tokens of those routed to the expert: the 0/1 matrix that picks them (row `r` picks the token whose rank among
  the routed is `160 b + r`), the feed-forward of the picked rows, and the rows scattered back by the same matrix, weighted by
  the gates, on top of the accumulator. The loop is the iteration of that step; stated for the float operations in general.
-/
module

public import proofs.«01_k».proof.Proof.Checks
public import proofs.«01_k».proof.Proof.Gen.KernelIdeal.Loops
public import Idealize.ShloMosaic.Lib.Pipeline.Value

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One block: `lane` holds 0 … 159 down its rows, `g` the gates, `slot` the tokens' ranks (−1 for a token not routed here),
    `b` the block's number, `hf` the tokens, `wg wu wd` the expert's weights, `a` the accumulator. -/
def blockStep (lane : FVec F S160x1024 .f32) (g slot : Vec F S1x1024 .f32) (b : BitVec 32) (hf : Vec F S1024x1024 .bf16)
    (wg wu : Vec F S1x1024x512 .bf16) (wd : Vec F S1x512x1024 .bf16) (a : Vec F S1024x1024 .f32) : Vec F S1024x1024 .f32 :=
  let pick : FVec F S160x1024 .f32 :=
    select (cmpf .oeq lane (broadcastTo S160x1024
        (subf slot (broadcast S1x1024 (Scalar.sitofp .f32 (Scalar.muli b 160#32) : F .f32))) broadcasts_S1x1024_S160x1024))
      (broadcast S160x1024 (Scalar.ofBits .f32 0x3F800000#32 : F .f32)) (broadcast S160x1024 (Scalar.ofBits .f32 0x00000000#32 : F .f32))
  let pickh : FVec F S160x1024 .bf16 := truncf .bf16 pick bitsLt_bf16_f32
  let rows : FVec F S160x1024 .bf16 := truncf .bf16
    (matmul dot_S160x1024_S1024x1024_S160x1024_1_0_0_1_n_n none pickh hf (constant S160x1024 .f32 0x00000000#32) : FVec F S160x1024 .f32) bitsLt_bf16_f32
  let gate : FVec F S160x512 .f32 := matmul dot_S160x1024_S1024x512_S160x512_1_0_0_1_n_n none rows
    (shapeCast S1024x512 wg shapeCasts_S1x1024x512_S1024x512) (constant S160x512 .f32 0x00000000#32)
  let up : FVec F S160x512 .f32 := matmul dot_S160x1024_S1024x512_S160x512_1_0_0_1_n_n none rows
    (shapeCast S1024x512 wu shapeCasts_S1x1024x512_S1024x512) (constant S160x512 .f32 0x00000000#32)
  let hid : FVec F S160x512 .bf16 := truncf .bf16 (mulf (mulf gate (logistic gate)) up) bitsLt_bf16_f32
  let y : FVec F S160x1024 .f32 := matmul dot_S160x512_S512x1024_S160x1024_1_0_0_1_n_n none hid
    (shapeCast S512x1024 wd shapeCasts_S1x512x1024_S512x1024) (constant S160x1024 .f32 0x00000000#32)
  let w : FVec F S160 .f32 := multiReduction .add [1] S160 (mulf pick (broadcastTo S160x1024 g broadcasts_S1x1024_S160x1024))
    0x00000000#32 reduces_S160x1024_S160 (.inl rfl) rfl
  let weighted : FVec F S160x1024 .bf16 := truncf .bf16 (mulf y
    (broadcastTo S160x1024 (shapeCast S160x1 w shapeCasts_S160_S160x1) broadcasts_S160x1_S160x1024)) bitsLt_bf16_f32
  addf a (matmul dot_S160x1024_S160x1024_S1024x1024_0_0_1_1_n_n none pickh weighted (constant S1024x1024 .f32 0x00000000#32))

/-- The first `k` blocks, on top of the accumulator `a`. -/
def blocks (lane : FVec F S160x1024 .f32) (g slot : Vec F S1x1024 .f32) (hf : Vec F S1024x1024 .bf16)
    (wg wu : Vec F S1x1024x512 .bf16) (wd : Vec F S1x512x1024 .bf16) : ℕ → Vec F S1024x1024 .f32 → Vec F S1024x1024 .f32
  | 0, a => a
  | k + 1, a => blockStep lane g slot (Scf.iv 0#32 1#32 k) hf wg wu wd (blocks lane g slot hf wg wu wd k a)

/-- The first expert's input weights of a pair. -/
def wIn0 (x : Vec F S2x1024x512 .bf16) : Vec F S1x1024x512 .bf16 :=
  View.ld x (Rect.unit (s := S2x1024x512) ![0, 0, 0] S1x1024x512.size inb_S2x1024x512_S1x1024x512_0_0_0)
/-- The second expert's. -/
def wIn1 (x : Vec F S2x1024x512 .bf16) : Vec F S1x1024x512 .bf16 :=
  View.ld x (Rect.unit (s := S2x1024x512) ![1, 0, 0] S1x1024x512.size inb_S2x1024x512_S1x1024x512_1_0_0)
/-- The first expert's output weights of a pair. -/
def wOut0 (x : Vec F S2x512x1024 .bf16) : Vec F S1x512x1024 .bf16 :=
  View.ld x (Rect.unit (s := S2x512x1024) ![0, 0, 0] S1x512x1024.size inb_S2x512x1024_S1x512x1024_0_0_0)
/-- The second expert's. -/
def wOut1 (x : Vec F S2x512x1024 .bf16) : Vec F S1x512x1024 .bf16 :=
  View.ld x (Rect.unit (s := S2x512x1024) ![1, 0, 0] S1x512x1024.size inb_S2x512x1024_S1x512x1024_1_0_0)

/-- Both offsets of a whole rank-2 rectangle are zero. -/
theorem off2 : (![0, 0] : Fin 2 → ℕ) = fun _ => 0 := by decide

/-- One store over a whole rank-2 buffer leaves its payload. -/
theorem read_whole_piece {d : Fin 2 → ℕ} {e : EltTy} {sp : Space} (v : View sig .tc sp ⟨2, d⟩ e) (f : v.ty.Contents (Elt F))
    (inb : ∀ a, (![0, 0] : Fin 2 → ℕ) a + d a ≤ d a) (w : (⟨2, d⟩ : Shape).Idx → Elt F e) :
    v.read (Elt F) (v.writes (Elt F) f [⟨Rect.unit (s := ⟨2, d⟩) ![0, 0] d inb, w⟩]) = w := by
  rw [View.read_writes_eq_canon v f [⟨Rect.unit (s := ⟨2, d⟩) ![0, 0] d inb, w⟩]
    (fun y => ⟨_, List.mem_singleton_self _, View.mem_set_unit_zero (S := ⟨2, d⟩) off2 inb y⟩)]
  exact View.canon_unit_zero (S := ⟨2, d⟩) off2 inb w

/-- What one trip of the first expert's loop stores into the accumulator: one whole piece, the block's step. -/
theorem piece_t1 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (arg1 : BitVec 32) (v4 : FVec F S160x1024 .f32) (g slot : Vec F S1x1024 .f32) (v : Elt F .i32) (hw : k0_chk1 v) (v36 : BitVec 32)
    (X2 : BufTy.Contents (Elt F) arg2.view.ty) (X5 : BufTy.Contents (Elt F) arg5.view.ty)
    (X6 : BufTy.Contents (Elt F) arg6.view.ty) (X7 : BufTy.Contents (Elt F) arg7.view.ty)
    (k : Fin (k0_t1_loop v).trips) (f : BufTy.Contents (Elt F) arg13.view.ty) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 g slot v hw 0#32 v36 X2 X5 X6 X7 k f
      = [⟨Rect.unit (s := S1024x1024) ![0, 0] S1024x1024.size inb_S1024x1024_S1024x1024_0_0,
          k0_pay29 (blockStep v4 g slot (Scf.iv 0#32 1#32 k)
            (View.ld (arg2.view.read (Elt F) X2) (Rect.unit (s := S1024x1024) ![0, 0] S1024x1024.size inb_S1024x1024_S1024x1024_0_0))
            (View.ld (arg5.view.read (Elt F) X5) (Rect.unit (s := S2x1024x512) ![0, 0, 0] S1x1024x512.size inb_S2x1024x512_S1x1024x512_0_0_0))
            (View.ld (arg6.view.read (Elt F) X6) (Rect.unit (s := S2x1024x512) ![0, 0, 0] S1x1024x512.size inb_S2x1024x512_S1x1024x512_0_0_0))
            (View.ld (arg7.view.read (Elt F) X7) (Rect.unit (s := S2x512x1024) ![0, 0, 0] S1x512x1024.size inb_S2x512x1024_S1x512x1024_0_0_0))
            (View.ld (arg13.view.read (Elt F) f) (Rect.unit (s := S1024x1024) ![0, 0] S1024x1024.size inb_S1024x1024_S1024x1024_0_0)))⟩] := by
  unfold tripL_k0_t1 trip_k0_t1
  rfl

/-- What the first expert's loop leaves in the accumulator after `k` trips. -/
theorem left_t1 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (arg1 : BitVec 32) (v4 : FVec F S160x1024 .f32) (g slot : Vec F S1x1024 .f32) (v : Elt F .i32) (hw : k0_chk1 v) (v36 : BitVec 32)
    (x2 : Vec F S1024x1024 .bf16) (x5 x6 : Vec F S2x1024x512 .bf16) (x7 : Vec F S2x512x1024 .bf16)
    (a : Vec F S1024x1024 .f32) (k : ℕ) (hk : k ≤ (k0_t1_loop v).trips) :
    arg13.view.writes (Elt F) (harg13.unread a)
        (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 g slot v hw 0#32 v36 (harg2.unread x2) (harg5.unread x5) (harg6.unread x6) (harg7.unread x7) (harg13.unread a) k)
      = harg13.unread (blocks v4 g slot x2 (wIn0 x5) (wIn0 x6) (wOut0 x7) k a) := by
  induction k with
  | zero => rfl
  | succ k ih =>
    have hk' : k < (k0_t1_loop v).trips := hk
    rw [show k + 1 = (⟨k, hk'⟩ : Fin (k0_t1_loop v).trips).val + 1 from rfl, pb_k0_t1_succ, View.writes_append, piece_t1, ih (Nat.le_of_succ_le hk)]
    refine harg13.eq_unread ?_
    rw [read_whole_piece, harg2.read_unread, harg5.read_unread, harg6.read_unread, harg7.read_unread,
      harg13.read_unread, View.ld_unit_zero off2, View.ld_unit_zero off2]
    unfold k0_pay29
    dsimp only
    rw [shapeCast_self]
    rfl

/-- What one trip of the second expert's loop stores into the accumulator: one whole piece, the block's step. -/
theorem piece_t3 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (v4 : FVec F S160x1024 .f32) (g slot : Vec F S1x1024 .f32) (v : Elt F .i32) (hw : k0_chk2 v)
    (X2 : BufTy.Contents (Elt F) arg2.view.ty) (X5 : BufTy.Contents (Elt F) arg5.view.ty)
    (X6 : BufTy.Contents (Elt F) arg6.view.ty) (X7 : BufTy.Contents (Elt F) arg7.view.ty)
    (k : Fin (k0_t3_loop v).trips) (f : BufTy.Contents (Elt F) arg13.view.ty) :
    tripL_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 v4 g slot v hw 0#32 X2 X5 X6 X7 k f
      = [⟨Rect.unit (s := S1024x1024) ![0, 0] S1024x1024.size inb_S1024x1024_S1024x1024_0_0,
          k0_pay1 (blockStep v4 g slot (Scf.iv 0#32 1#32 k)
            (View.ld (arg2.view.read (Elt F) X2) (Rect.unit (s := S1024x1024) ![0, 0] S1024x1024.size inb_S1024x1024_S1024x1024_0_0))
            (View.ld (arg5.view.read (Elt F) X5) (Rect.unit (s := S2x1024x512) ![1, 0, 0] S1x1024x512.size inb_S2x1024x512_S1x1024x512_1_0_0))
            (View.ld (arg6.view.read (Elt F) X6) (Rect.unit (s := S2x1024x512) ![1, 0, 0] S1x1024x512.size inb_S2x1024x512_S1x1024x512_1_0_0))
            (View.ld (arg7.view.read (Elt F) X7) (Rect.unit (s := S2x512x1024) ![1, 0, 0] S1x512x1024.size inb_S2x512x1024_S1x512x1024_1_0_0))
            (View.ld (arg13.view.read (Elt F) f) (Rect.unit (s := S1024x1024) ![0, 0] S1024x1024.size inb_S1024x1024_S1024x1024_0_0)))⟩] := by
  unfold tripL_k0_t3 trip_k0_t3
  rfl

/-- What the second expert's loop leaves in the accumulator after `k` trips. -/
theorem left_t3 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (v4 : FVec F S160x1024 .f32) (g slot : Vec F S1x1024 .f32) (v : Elt F .i32) (hw : k0_chk2 v)
    (x2 : Vec F S1024x1024 .bf16) (x5 x6 : Vec F S2x1024x512 .bf16) (x7 : Vec F S2x512x1024 .bf16)
    (a : Vec F S1024x1024 .f32) (k : ℕ) (hk : k ≤ (k0_t3_loop v).trips) :
    arg13.view.writes (Elt F) (harg13.unread a)
        (pb_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 v4 g slot v hw 0#32 (harg2.unread x2) (harg5.unread x5) (harg6.unread x6) (harg7.unread x7) (harg13.unread a) k)
      = harg13.unread (blocks v4 g slot x2 (wIn1 x5) (wIn1 x6) (wOut1 x7) k a) := by
  induction k with
  | zero => rfl
  | succ k ih =>
    have hk' : k < (k0_t3_loop v).trips := hk
    rw [show k + 1 = (⟨k, hk'⟩ : Fin (k0_t3_loop v).trips).val + 1 from rfl, pb_k0_t3_succ, View.writes_append, piece_t3, ih (Nat.le_of_succ_le hk)]
    refine harg13.eq_unread ?_
    rw [read_whole_piece, harg2.read_unread, harg5.read_unread, harg6.read_unread, harg7.read_unread,
      harg13.read_unread, View.ld_unit_zero off2, View.ld_unit_zero off2]
    unfold k0_pay1
    dsimp only
    rw [shapeCast_self]
    rfl

end Cert.KernelIdeal.Moe

end
-- ==== Proof.Pass.lean ====
module

public import proofs.«01_k».proof.Proof.Blocks
public import proofs.«01_k».proof.Proof.Gen.KernelIdeal.Frame

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A point with `e = 0`, the first of its token block: the kernel's condition. -/
abbrev isFirst (i : grid0.Coords) : Prop :=
  (Scalar.cmpi .ne (Scalar.extui (Scalar.cmpi .eq (BitVec.ofNat 32 (i 1).val) 0#32)) 0#32) = 1#1

/-- A load of a whole rank-2 buffer is its contents. -/
theorem ld_whole {d : Fin 2 → ℕ} {e : EltTy} (X : (⟨2, d⟩ : Shape).Idx → Elt F e)
    (inb : ∀ a, (![0, 0] : Fin 2 → ℕ) a + d a ≤ d a) :
    View.ld (Val := Elt F) X (Rect.unit (s := ⟨2, d⟩) ![0, 0] d inb) = X :=
  View.ld_unit_zero (S := ⟨2, d⟩) off2 inb X

/-- The row of a (16, 1024) table that the point's first expert owns, -/
def rowA (i : grid0.Coords) (x : Vec F S16x1024 .f32) : Vec F S1x1024 .f32 :=
  View.ld x (Rect.unit (s := S16x1024) (k0_off1 i) S1x1024.size (k0_off1_inb i))
/-- and its second. -/
def rowB (i : grid0.Coords) (x : Vec F S16x1024 .f32) : Vec F S1x1024 .f32 :=
  View.ld x (Rect.unit (s := S16x1024) (k0_off3 i) S1x1024.size (k0_off3_inb i))

/-- The count of the point's first expert, -/
def cntA (i : grid0.Coords) (n : Vec F S16 .i32) : BitVec 32 :=
  View.ld n (Rect.unit (s := S16) (k0_off2 i) S1.size (k0_off2_inb i)) (Shape.Idx.first (numel1_S1.symm ▸ Nat.one_pos))
/-- and its second. -/
def cntB (i : grid0.Coords) (n : Vec F S16 .i32) : BitVec 32 :=
  View.ld n (Rect.unit (s := S16) (k0_off4 i) S1.size (k0_off4_inb i)) (Shape.Idx.first (numel1_S1.symm ▸ Nat.one_pos))

/-- The gate row of the last residual, out of the six modulation rows. -/
def modRow (x : Vec F S1x1x6x1024 .f32) : Vec F S1x1x1x1024 .f32 :=
  View.ld x (Rect.unit (s := S1x1x6x1024) ![0, 0, 5, 0] S1x1x1x1024.size inb_S1x1x6x1024_S1x1x1x1024_0_0_5_0)

/-- One point's two experts, on top of the accumulator `a`: `hf` the tokens, `gt` the gates, `wg wu wd` the pair's weights,
    `r` the ranks and `n` the counts. -/
def pass (i : grid0.Coords) (hf : Vec F S1024x1024 .bf16) (gt : Vec F S16x1024 .f32) (wg wu : Vec F S2x1024x512 .bf16)
    (wd : Vec F S2x512x1024 .bf16) (r : Vec F S16x1024 .f32) (n : Vec F S16 .i32) (a : Vec F S1024x1024 .f32) : Vec F S1024x1024 .f32 :=
  blocks k0_pay27 (rowB i gt) (k0_pay31 (rowB i gt) (rowB i r)) hf (wIn1 wg) (wIn1 wu) (wOut1 wd) (k0_t3_loop (cntB i n)).trips
    (blocks k0_pay27 (rowA i gt) (k0_pay28 (rowA i gt) (rowA i r)) hf (wIn0 wg) (wIn0 wu) (wOut0 wd) (k0_t1_loop (cntA i n)).trips a)

/-- The loop behind it makes no trip, so it leaves no piece. -/
theorem pbNil_t2 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (arg1 : BitVec 32) (v4 : FVec F S160x1024 .f32) (g slot : Vec F S1x1024 .f32) (v : Elt F .i32) (hw : k0_chk1 v) (b v36 v40 : BitVec 32)
    (X2 : BufTy.Contents (Elt F) arg2.view.ty) (X5 : BufTy.Contents (Elt F) arg5.view.ty)
    (X6 : BufTy.Contents (Elt F) arg6.view.ty) (X7 : BufTy.Contents (Elt F) arg7.view.ty)
    (G : BufTy.Contents (Elt F) arg13.view.ty) :
    pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v4 g slot v hw b v36 v40 X2 X5 X6 X7 G
      (Scf.trips (k0_t2_loop v).lb (k0_t2_loop v).ub (k0_t2_loop v).st) = [] := by
  rw [show Scf.trips (k0_t2_loop v).lb (k0_t2_loop v).ub (k0_t2_loop v).st = 0 from Scf.rem_trips _ _]
  rfl

/-- The loop behind it makes no trip, so it leaves no piece. -/
theorem pbNil_t4 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (v4 : FVec F S160x1024 .f32) (g slot : Vec F S1x1024 .f32) (v : Elt F .i32) (hw : k0_chk2 v) (v76 : BitVec 32)
    (X2 : BufTy.Contents (Elt F) arg2.view.ty) (X5 : BufTy.Contents (Elt F) arg5.view.ty)
    (X6 : BufTy.Contents (Elt F) arg6.view.ty) (X7 : BufTy.Contents (Elt F) arg7.view.ty)
    (G : BufTy.Contents (Elt F) arg13.view.ty) :
    pb_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 v4 g slot v hw v76 X2 X5 X6 X7 G
      (Scf.trips (k0_t4_loop v).lb (k0_t4_loop v).ub (k0_t4_loop v).st) = [] := by
  rw [show Scf.trips (k0_t4_loop v).lb (k0_t4_loop v).ub (k0_t4_loop v).st = 0 from Scf.rem_trips _ _]
  rfl

end Cert.KernelIdeal.Moe

end
-- ==== Proof.RunMid.lean ====
module

public import proofs.«01_k».proof.Proof.Pass

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A point that is neither the first nor the last of its token block: two experts more. -/
theorem run_mid (c : Dev nD) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (hc0 : ¬ isFirst i) (hc1 : ¬ k0_cond2 i = 1#1)
    (x0 : Vec F S1024x1024 .bf16) (x1 : Vec F S16x1024 .f32) (x2 : Vec F S1024x1024 .bf16) (x3 x4 : Vec F S2x1024x512 .bf16)
    (x5 : Vec F S2x512x1024 .bf16) (x6 : Vec F S1024x1024 .f32) (x7 : Vec F S1x1x6x1024 .f32) (x8 : Vec F S1x1024 .f32)
    (o9 o10 a : Vec F S1024x1024 .f32) (r : Vec F S16x1024 .f32) (n : Vec F S16 .i32) (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare o10 ∗ owns (c : Thread nD τ) arg13 fullShare a
      ∗ owns (c : Thread nD τ) arg14 fullShare r ∗ owns (c : Thread nD τ) arg15 fullShare n
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare o10 ∗ owns (c : Thread nD τ) arg13 fullShare (pass i x0 x1 x3 x4 x5 r n a)
      ∗ owns (c : Thread nD τ) arg14 fullShare r ∗ owns (c : Thread nD τ) arg15 fullShare n) -∗ K ⟨⟩))
    ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_moe_eq_skeleton]; unfold cc0_moe_skel
  simp only [k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact hc0 | sl_exact hc1 | with_reducible exact chk1_all _ | with_reducible exact chk2_all _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    rw [pbNil_t2, pbNil_t4]
    simp only [List.nil_append, View.writes_append]
    rw [left_t1 (hk := le_rfl), left_t3 (hk := le_rfl)]
    rw [harg13.read_unread]
    sl_unfold_run_names
    simp only [View.readAt_eq_ld, harg3.read_unread, harg14.read_unread, harg15.read_unread]
    rfl
  isplitl [H12]
  · iexists _; isplitr; · ipureintro; exact harg14.read_unread _
    iexact H12
  iexists _; isplitr; · ipureintro; exact harg15.read_unread _
  iexact H13

end Cert.KernelIdeal.Moe

end
-- ==== Proof.RunFirst.lean ====
module

public import proofs.«01_k».proof.Proof.Pass
public import Idealize.ShloMosaic.Lib.CellWrites

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- How many of the block's tokens are routed to each expert, out of the gates. -/
def counts (x : Vec F S16x1024 .f32) : Vec F S16 .i32 := fun j =>
  (![(Scalar.fptosi 32 (k0_pay7 x) : BitVec 32), (Scalar.fptosi 32 (k0_pay8 x) : BitVec 32), (Scalar.fptosi 32 (k0_pay9 x) : BitVec 32), (Scalar.fptosi 32 (k0_pay10 (k0_pay5 x)) : BitVec 32), (Scalar.fptosi 32 (k0_pay11 (k0_pay5 x)) : BitVec 32), (Scalar.fptosi 32 (k0_pay12 (k0_pay5 x)) : BitVec 32), (Scalar.fptosi 32 (k0_pay13 (k0_pay5 x)) : BitVec 32), (Scalar.fptosi 32 (k0_pay14 (k0_pay5 x)) : BitVec 32), (Scalar.fptosi 32 (k0_pay15 (k0_pay5 x)) : BitVec 32), (Scalar.fptosi 32 (k0_pay16 (k0_pay5 x)) : BitVec 32), (Scalar.fptosi 32 (k0_pay17 (k0_pay5 x)) : BitVec 32), (Scalar.fptosi 32 (k0_pay18 (k0_pay5 x)) : BitVec 32), (Scalar.fptosi 32 (k0_pay19 (k0_pay5 x)) : BitVec 32), (Scalar.fptosi 32 (k0_pay20 (k0_pay5 x)) : BitVec 32), (Scalar.fptosi 32 (k0_pay21 (k0_pay5 x)) : BitVec 32), (Scalar.fptosi 32 (k0_pay26 (k0_pay5 x)) : BitVec 32)] : Fin 16 → BitVec 32) (j 0)

/-- One store over a whole rank-2 buffer, as contents. -/
theorem writes_whole {d : Fin 2 → ℕ} {e : EltTy} {sp : Space} {M : Memref sig .tc sp ⟨2, d⟩ e} (hM : M.IsWhole) (f : M.view.ty.Contents (Elt F))
    (inb : ∀ a, (![0, 0] : Fin 2 → ℕ) a + d a ≤ d a) (w : (⟨2, d⟩ : Shape).Idx → Elt F e) :
    M.view.writes (Elt F) f [⟨Rect.unit (s := ⟨2, d⟩) ![0, 0] d inb, w⟩] = hM.unread w :=
  hM.eq_unread (read_whole_piece _ f inb w)

set_option maxHeartbeats 1000000 in
/-- The sixteen counts, stored one cell at a time, fill the count buffer. -/
theorem writes_counts {M : Memref sig .tc .smem S16 .i32} (hM : M.IsWhole) (f : M.view.ty.Contents (Elt F)) (x : Vec F S16x1024 .f32) :
    M.view.writes (Elt F) f
      [⟨Rect.unit (s := S16) ![15] ![1] inb_S16_S1_15, fun _ => (Scalar.fptosi 32 (k0_pay26 (k0_pay5 x)) : BitVec 32)⟩,
        ⟨Rect.unit (s := S16) ![14] ![1] inb_S16_S1_14, fun _ => (Scalar.fptosi 32 (k0_pay21 (k0_pay5 x)) : BitVec 32)⟩,
        ⟨Rect.unit (s := S16) ![13] ![1] inb_S16_S1_13, fun _ => (Scalar.fptosi 32 (k0_pay20 (k0_pay5 x)) : BitVec 32)⟩,
        ⟨Rect.unit (s := S16) ![12] ![1] inb_S16_S1_12, fun _ => (Scalar.fptosi 32 (k0_pay19 (k0_pay5 x)) : BitVec 32)⟩,
        ⟨Rect.unit (s := S16) ![11] ![1] inb_S16_S1_11, fun _ => (Scalar.fptosi 32 (k0_pay18 (k0_pay5 x)) : BitVec 32)⟩,
        ⟨Rect.unit (s := S16) ![10] ![1] inb_S16_S1_10, fun _ => (Scalar.fptosi 32 (k0_pay17 (k0_pay5 x)) : BitVec 32)⟩,
        ⟨Rect.unit (s := S16) ![9] ![1] inb_S16_S1_9, fun _ => (Scalar.fptosi 32 (k0_pay16 (k0_pay5 x)) : BitVec 32)⟩,
        ⟨Rect.unit (s := S16) ![8] ![1] inb_S16_S1_8, fun _ => (Scalar.fptosi 32 (k0_pay15 (k0_pay5 x)) : BitVec 32)⟩,
        ⟨Rect.unit (s := S16) ![7] ![1] inb_S16_S1_7, fun _ => (Scalar.fptosi 32 (k0_pay14 (k0_pay5 x)) : BitVec 32)⟩,
        ⟨Rect.unit (s := S16) ![6] ![1] inb_S16_S1_6, fun _ => (Scalar.fptosi 32 (k0_pay13 (k0_pay5 x)) : BitVec 32)⟩,
        ⟨Rect.unit (s := S16) ![5] ![1] inb_S16_S1_5, fun _ => (Scalar.fptosi 32 (k0_pay12 (k0_pay5 x)) : BitVec 32)⟩,
        ⟨Rect.unit (s := S16) ![4] ![1] inb_S16_S1_4, fun _ => (Scalar.fptosi 32 (k0_pay11 (k0_pay5 x)) : BitVec 32)⟩,
        ⟨Rect.unit (s := S16) ![3] ![1] inb_S16_S1_3, fun _ => (Scalar.fptosi 32 (k0_pay10 (k0_pay5 x)) : BitVec 32)⟩,
        ⟨Rect.unit (s := S16) ![2] ![1] inb_S16_S1_2, fun _ => (Scalar.fptosi 32 (k0_pay9 x) : BitVec 32)⟩,
        ⟨Rect.unit (s := S16) ![1] ![1] inb_S16_S1_1, fun _ => (Scalar.fptosi 32 (k0_pay8 x) : BitVec 32)⟩,
        ⟨Rect.unit (s := S16) ![0] ![1] inb_S16_S1_0, fun _ => (Scalar.fptosi 32 (k0_pay7 x) : BitVec 32)⟩] = hM.unread (counts x) := by
  refine hM.eq_unread (funext fun y => ?_)
  simp only [counts]
  rw [View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell]
  generalize y 0 = k
  simp only [Matrix.cons_val_zero]
  revert k
  show ∀ k : Fin 16, _
  intro k
  fin_cases k <;> rfl

set_option maxHeartbeats 4000000 in
/-- The first point of a token block: the accumulator, the ranks and the counts set up, then two experts. -/
theorem run_first (c : Dev nD) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (hc0 : isFirst i) (hc1 : ¬ k0_cond2 i = 1#1)
    (x0 : Vec F S1024x1024 .bf16) (x1 : Vec F S16x1024 .f32) (x2 : Vec F S1024x1024 .bf16) (x3 x4 : Vec F S2x1024x512 .bf16)
    (x5 : Vec F S2x512x1024 .bf16) (x6 : Vec F S1024x1024 .f32) (x7 : Vec F S1x1x6x1024 .f32) (x8 : Vec F S1x1024 .f32)
    (o9 o10 a : Vec F S1024x1024 .f32) (r : Vec F S16x1024 .f32) (n : Vec F S16 .i32) (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare o10 ∗ owns (c : Thread nD τ) arg13 fullShare a
      ∗ owns (c : Thread nD τ) arg14 fullShare r ∗ owns (c : Thread nD τ) arg15 fullShare n
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare o10 ∗ owns (c : Thread nD τ) arg13 fullShare (pass i x0 x1 x3 x4 x5 (k0_pay6 x1 x2) (counts x1) k0_pay4)
      ∗ owns (c : Thread nD τ) arg14 fullShare (k0_pay6 x1 x2) ∗ owns (c : Thread nD τ) arg15 fullShare (counts x1)) -∗ K ⟨⟩))
    ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_moe_eq_skeleton]; unfold cc0_moe_skel
  simp only [k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact hc0 | sl_exact hc1)
  generalize hv : run_first.sl.r_17 c i arg3 harg3 arg15 x1 = cA
  generalize hr : run_first.sl.v12 c i arg3 harg3 arg4 harg4 arg14 x1 x2 = rA
  replace hv : cA = cntA i (counts x1) := by
    rw [← hv]
    sl_unfold_run_names
    simp only [View.readAt_eq_ld, harg3.read_unread, ld_whole]
    rw [writes_counts harg15, harg15.read_unread]
    rfl
  replace hr : rA = rowA i (k0_pay6 x1 x2) := by
    rw [← hr]
    sl_unfold_run_names
    simp only [View.readAt_eq_ld, harg3.read_unread, harg4.read_unread, ld_whole]
    rw [writes_whole harg14, harg14.read_unread]
    rfl
  sl_unfold_run_names
  simp only [View.readAt_eq_ld, harg3.read_unread, harg4.read_unread, ld_whole]
  rw [writes_whole harg13, writes_whole harg14, writes_counts harg15]
  skip
  sl_exec (disch := first | sl_exact hc0 | sl_exact hc1 | with_reducible exact chk1_all _ | with_reducible exact chk2_all _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    rw [pbNil_t2, pbNil_t4]
    simp only [List.nil_append, View.writes_append]
    rw [left_t1 (hk := le_rfl), left_t3 (hk := le_rfl)]
    rw [harg13.read_unread]
    sl_unfold_run_names
    simp only [View.readAt_eq_ld, harg3.read_unread, harg14.read_unread, harg15.read_unread]
    subst hv hr
    rfl
  isplitl [H12]
  · iexists _; isplitr; · ipureintro; exact harg14.read_unread _
    iexact H12
  iexists _; isplitr; · ipureintro; exact harg15.read_unread _
  iexact H13

end Cert.KernelIdeal.Moe

end
-- ==== Proof.RunPrompt.lean ====
module

public import proofs.«01_k».proof.Proof.Pass

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The last point of a prompt block: two experts more, and the finished rows to the first result. -/
theorem run_prompt (c : Dev nD) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (hc0 : ¬ isFirst i) (hc1 : k0_cond2 i = 1#1) (hc2 : k0_cond3 i = 1#1) (hc3 : ¬ k0_cond4 i = 1#1)
    (x0 : Vec F S1024x1024 .bf16) (x1 : Vec F S16x1024 .f32) (x2 : Vec F S1024x1024 .bf16) (x3 x4 : Vec F S2x1024x512 .bf16)
    (x5 : Vec F S2x512x1024 .bf16) (x6 : Vec F S1024x1024 .f32) (x7 : Vec F S1x1x6x1024 .f32) (x8 : Vec F S1x1024 .f32)
    (o9 o10 a : Vec F S1024x1024 .f32) (r : Vec F S16x1024 .f32) (n : Vec F S16 .i32) (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare o10 ∗ owns (c : Thread nD τ) arg13 fullShare a
      ∗ owns (c : Thread nD τ) arg14 fullShare r ∗ owns (c : Thread nD τ) arg15 fullShare n
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare (k0_pay3 x6 (modRow x7) (pass i x0 x1 x3 x4 x5 r n a) x8) ∗ owns (c : Thread nD τ) arg12 fullShare o10 ∗ owns (c : Thread nD τ) arg13 fullShare (pass i x0 x1 x3 x4 x5 r n a)
      ∗ owns (c : Thread nD τ) arg14 fullShare r ∗ owns (c : Thread nD τ) arg15 fullShare n) -∗ K ⟨⟩))
    ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_moe_eq_skeleton]; unfold cc0_moe_skel
  simp only [k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact hc0 | sl_exact hc1 | sl_exact hc2 | sl_exact hc3 | with_reducible exact chk1_all _ | with_reducible exact chk2_all _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    rw [read_whole_piece]
    sl_unfold_run_names
    simp only [View.readAt_eq_ld]
    rw [pbNil_t2, pbNil_t4]
    simp only [List.nil_append, View.writes_append]
    rw [left_t1 (hk := le_rfl), left_t3 (hk := le_rfl)]
    simp only [harg3.read_unread, harg8.read_unread, harg9.read_unread, harg10.read_unread, harg13.read_unread, harg14.read_unread, harg15.read_unread]
    rw [ld_whole, ld_whole, ld_whole]
    rfl
  isplitl [H10]
  · iexists _; isplitr; · ipureintro; exact harg12.read_unread _
    iexact H10
  isplitl [H11]
  · iexists _; isplitr; swap; · iexact H11
    ipureintro
    rw [pbNil_t2, pbNil_t4]
    simp only [List.nil_append, View.writes_append]
    rw [left_t1 (hk := le_rfl), left_t3 (hk := le_rfl)]
    rw [harg13.read_unread]
    sl_unfold_run_names
    simp only [View.readAt_eq_ld, harg3.read_unread, harg14.read_unread, harg15.read_unread]
    rfl
  isplitl [H12]
  · iexists _; isplitr; · ipureintro; exact harg14.read_unread _
    iexact H12
  iexists _; isplitr; · ipureintro; exact harg15.read_unread _
  iexact H13

end Cert.KernelIdeal.Moe

end
-- ==== Proof.RunSample.lean ====
module

public import proofs.«01_k».proof.Proof.Pass

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The last point of a sample block: two experts more, and the finished rows to the second result. -/
theorem run_sample (c : Dev nD) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .f32) (harg13 : arg13.IsWhole)
  (arg14 : Memref sig .tc .vmem S16x1024 .f32) (harg14 : arg14.IsWhole)
  (arg15 : Memref sig .tc .smem S16 .i32) (harg15 : arg15.IsWhole)
    (hc0 : ¬ isFirst i) (hc1 : k0_cond2 i = 1#1) (hc2 : ¬ k0_cond3 i = 1#1) (hc3 : k0_cond4 i = 1#1)
    (x0 : Vec F S1024x1024 .bf16) (x1 : Vec F S16x1024 .f32) (x2 : Vec F S1024x1024 .bf16) (x3 x4 : Vec F S2x1024x512 .bf16)
    (x5 : Vec F S2x512x1024 .bf16) (x6 : Vec F S1024x1024 .f32) (x7 : Vec F S1x1x6x1024 .f32) (x8 : Vec F S1x1024 .f32)
    (o9 o10 a : Vec F S1024x1024 .f32) (r : Vec F S16x1024 .f32) (n : Vec F S16 .i32) (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare o10 ∗ owns (c : Thread nD τ) arg13 fullShare a
      ∗ owns (c : Thread nD τ) arg14 fullShare r ∗ owns (c : Thread nD τ) arg15 fullShare n
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare (k0_pay3 x6 (modRow x7) (pass i x0 x1 x3 x4 x5 r n a) x8) ∗ owns (c : Thread nD τ) arg13 fullShare (pass i x0 x1 x3 x4 x5 r n a)
      ∗ owns (c : Thread nD τ) arg14 fullShare r ∗ owns (c : Thread nD τ) arg15 fullShare n) -∗ K ⟨⟩))
    ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_moe_eq_skeleton]; unfold cc0_moe_skel
  simp only [k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg14.eq_unread hf12
  obtain rfl := harg15.eq_unread hf13
  sl_exec (disch := first | sl_exact hc0 | sl_exact hc1 | sl_exact hc2 | sl_exact hc3 | with_reducible exact chk1_all _ | with_reducible exact chk2_all _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    rw [read_whole_piece]
    sl_unfold_run_names
    simp only [View.readAt_eq_ld]
    rw [pbNil_t2, pbNil_t4]
    simp only [List.nil_append, View.writes_append]
    rw [left_t1 (hk := le_rfl), left_t3 (hk := le_rfl)]
    simp only [harg3.read_unread, harg8.read_unread, harg9.read_unread, harg10.read_unread, harg13.read_unread, harg14.read_unread, harg15.read_unread]
    rw [ld_whole, ld_whole, ld_whole]
    rfl
  isplitl [H11]
  · iexists _; isplitr; swap; · iexact H11
    ipureintro
    rw [pbNil_t2, pbNil_t4]
    simp only [List.nil_append, View.writes_append]
    rw [left_t1 (hk := le_rfl), left_t3 (hk := le_rfl)]
    rw [harg13.read_unread]
    sl_unfold_run_names
    simp only [View.readAt_eq_ld, harg3.read_unread, harg14.read_unread, harg15.read_unread]
    rfl
  isplitl [H12]
  · iexists _; isplitr; · ipureintro; exact harg14.read_unread _
    iexact H12
  iexists _; isplitr; · ipureintro; exact harg15.read_unread _
  iexact H13

end Cert.KernelIdeal.Moe

end
-- ==== Proof.Data.lean ====
module

public import proofs.«01_k».proof.Proof.RunMid
public import proofs.«01_k».proof.Proof.RunFirst
public import proofs.«01_k».proof.Proof.RunPrompt
public import proofs.«01_k».proof.Proof.RunSample
public import Idealize.ShloMosaic.Lib.Pipeline.TableIdle
public import Idealize.ShloMosaic.Lib.Pipeline.FrameBody
public import Idealize.ShloMosaic.Lib.WordCmp

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the kernel's conditions hold, and where its outputs are idle -/

theorem isFirst_iff : ∀ t : Fin cfg0.N, isFirst (grid0.coords t) ↔ t.val % 8 = 0 :=
  (fun t => by
    have ht : t.val < 288 := Nat.lt_of_lt_of_eq t.isLt N_0
    have e1 : (grid0.coords t 1).val = t.val / 1 % 8 := Pipeline.Grid.coords_val t 1 (by decide) rfl
    simp only [isFirst, e1]
    word_cmp
   : ∀ t : Fin grid0.N, isFirst (grid0.coords t) ↔ t.val % 8 = 0)

theorem cond2_iff : ∀ t : Fin cfg0.N, k0_cond2 (grid0.coords t) = 1#1 ↔ t.val % 8 = 7 :=
  (fun t => by
    have ht : t.val < 288 := Nat.lt_of_lt_of_eq t.isLt N_0
    have e1 : (grid0.coords t 1).val = t.val / 1 % 8 := Pipeline.Grid.coords_val t 1 (by decide) rfl
    simp only [k0_cond2, e1]
    word_cmp
   : ∀ t : Fin grid0.N, k0_cond2 (grid0.coords t) = 1#1 ↔ t.val % 8 = 7)

theorem cond3_iff : ∀ t : Fin cfg0.N, k0_cond3 (grid0.coords t) = 1#1 ↔ t.val < 32 :=
  (fun t => by
    have ht : t.val < 288 := Nat.lt_of_lt_of_eq t.isLt N_0
    have e0 : (grid0.coords t 0).val = t.val / 8 % 36 := Pipeline.Grid.coords_val t 0 (by decide) rfl
    simp only [k0_cond3, e0]
    word_cmp
   : ∀ t : Fin grid0.N, k0_cond3 (grid0.coords t) = 1#1 ↔ t.val < 32)

theorem cond4_iff : ∀ t : Fin cfg0.N, k0_cond4 (grid0.coords t) = 1#1 ↔ 32 ≤ t.val :=
  (fun t => by
    have ht : t.val < 288 := Nat.lt_of_lt_of_eq t.isLt N_0
    have e0 : (grid0.coords t 0).val = t.val / 8 % 36 := Pipeline.Grid.coords_val t 0 (by decide) rfl
    simp only [k0_cond4, e0]
    word_cmp
   : ∀ t : Fin grid0.N, k0_cond4 (grid0.coords t) = 1#1 ↔ 32 ≤ t.val)

/-- The first result's buffer is stored into at the last point of a prompt block, -/
theorem live9 : ∀ t : Fin cfg0.N, t.val % 8 = 7 → t.val < 32 → cfg0.idle 9 (grid0.coords t) = false := by decide +kernel
/-- and at no other; -/
theorem idle9 : ∀ t : Fin cfg0.N, ¬ (t.val % 8 = 7 ∧ t.val < 32) → cfg0.idle 9 (grid0.coords t) = true := by decide +kernel
/-- the second result's at the last point of a sample block, -/
theorem live10 : ∀ t : Fin cfg0.N, t.val % 8 = 7 → 32 ≤ t.val → cfg0.idle 10 (grid0.coords t) = false := by decide +kernel
/-- and at no other. -/
theorem idle10 : ∀ t : Fin cfg0.N, ¬ (t.val % 8 = 7 ∧ 32 ≤ t.val) → cfg0.idle 10 (grid0.coords t) = true := by decide +kernel
/-- The second result is written back only where it is stored. -/
theorem noFlush10 : ∀ t : Fin cfg0.N, ¬ (t.val % 8 = 7 ∧ 32 ≤ t.val) → (cfg0.win 10).flush t = false := by decide +kernel
/-- The first result is written back where it is stored — but its last block only at the very end. -/
theorem flush9 : ∀ t : Fin cfg0.N, (cfg0.win 9).flush t = true → (t.val % 8 = 7 ∧ t.val < 31) ∨ t.val = 287 := by decide +kernel
/-- Up to the first block's first store, and between a write-back and the next store, the first result's buffer holds nothing. -/
theorem fresh9 : ∀ t : Fin cfg0.N, t.val < 32 → cfg0.fresh 9 t.val = true := by
  have h : ∀ n : Fin 32, cfg0.fresh 9 n.val = true := by decide +kernel
  exact fun t ht => h ⟨t.val, ht⟩
theorem fresh9_end : cfg0.fresh 9 287 = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl

/-! ## The buffers the body is handed -/

abbrev st0 (t : Fin cfg0.N) : Memref sig .tc .vmem S1024x1024 .bf16 := win0_0.stage (cfg0.slots t 0)
abbrev st1 (t : Fin cfg0.N) : Memref sig .tc .vmem S16x1024 .f32 := win0_1.stage (cfg0.slots t 1)
abbrev st2 (t : Fin cfg0.N) : Memref sig .tc .vmem S1024x1024 .bf16 := win0_2.stage (cfg0.slots t 2)
abbrev st3 (t : Fin cfg0.N) : Memref sig .tc .vmem S2x1024x512 .bf16 := win0_3.stage (cfg0.slots t 3)
abbrev st4 (t : Fin cfg0.N) : Memref sig .tc .vmem S2x1024x512 .bf16 := win0_4.stage (cfg0.slots t 4)
abbrev st5 (t : Fin cfg0.N) : Memref sig .tc .vmem S2x512x1024 .bf16 := win0_5.stage (cfg0.slots t 5)
abbrev st6 (t : Fin cfg0.N) : Memref sig .tc .vmem S1024x1024 .f32 := win0_6.stage (cfg0.slots t 6)
abbrev st7 (t : Fin cfg0.N) : Memref sig .tc .vmem S1x1x6x1024 .f32 := win0_7.stage (cfg0.slots t 7)
abbrev st8 (t : Fin cfg0.N) : Memref sig .tc .vmem S1x1024 .f32 := win0_8.stage (cfg0.slots t 8)
abbrev st9 (t : Fin cfg0.N) : Memref sig .tc .vmem S1024x1024 .f32 := win0_9.stage (cfg0.slots t 9)
abbrev st10 (t : Fin cfg0.N) : Memref sig .tc .vmem S1024x1024 .f32 := win0_10.stage (cfg0.slots t 10)
abbrev scA : Memref sig .tc .vmem S1024x1024 .f32 := Memref.whole cc0_scratch0
abbrev scR : Memref sig .tc .vmem S16x1024 .f32 := Memref.whole cc0_scratch1
abbrev scN : Memref sig .tc .smem S16 .i32 := Memref.whole cc0_scratch2

/-- What the launch hands the region, with the three scratch buffers as owned memrefs. -/
theorem start_eq (c : Dev nD) :
    (Pipeline.ΦA spec0 c : sProp 𝕄)
      = iprop(iprop((∃ d, owns (c : Thread nD τ) scA fullShare d) ∗ (∃ d, owns (c : Thread nD τ) scR fullShare d) ∗ (∃ d, owns (c : Thread nD τ) scN fullShare d)) ∗ (∃ r, prngReg c r)) := by
  unfold Pipeline.ΦA; rw [scopedRest0_eq]; simp only [scA, scR, scN, owns_whole]; try rfl

/-! ## What the scratch and the results hold, point by point -/

/-- Window 0's block at a point. -/
abbrev blk0 (c : Dev nD) (t : Fin cfg0.N) : Vec F S1024x1024 .bf16 := iblk m c 0 t
/-- Window 1's block at a point. -/
abbrev blk1 (c : Dev nD) (t : Fin cfg0.N) : Vec F S16x1024 .f32 := iblk m c 1 t
/-- Window 2's block at a point. -/
abbrev blk2 (c : Dev nD) (t : Fin cfg0.N) : Vec F S1024x1024 .bf16 := iblk m c 2 t
/-- Window 3's block at a point. -/
abbrev blk3 (c : Dev nD) (t : Fin cfg0.N) : Vec F S2x1024x512 .bf16 := iblk m c 3 t
/-- Window 4's block at a point. -/
abbrev blk4 (c : Dev nD) (t : Fin cfg0.N) : Vec F S2x1024x512 .bf16 := iblk m c 4 t
/-- Window 5's block at a point. -/
abbrev blk5 (c : Dev nD) (t : Fin cfg0.N) : Vec F S2x512x1024 .bf16 := iblk m c 5 t
/-- Window 6's block at a point. -/
abbrev blk6 (c : Dev nD) (t : Fin cfg0.N) : Vec F S1024x1024 .f32 := iblk m c 6 t
/-- Window 7's block at a point. -/
abbrev blk7 (c : Dev nD) (t : Fin cfg0.N) : Vec F S1x1x6x1024 .f32 := iblk m c 7 t
/-- Window 8's block at a point. -/
abbrev blk8 (c : Dev nD) (t : Fin cfg0.N) : Vec F S1x1024 .f32 := iblk m c 8 t

/-- The scratch after a block's first point: accumulator, ranks, counts. -/
def firstScr (c : Dev nD) (t : Fin cfg0.N) : Vec F S1024x1024 .f32 × Vec F S16x1024 .f32 × Vec F S16 .i32 :=
  (pass (grid0.coords t) (blk0 m c t) (blk1 m c t) (blk3 m c t) (blk4 m c t) (blk5 m c t) (k0_pay6 (blk1 m c t) (blk2 m c t)) (counts (blk1 m c t)) k0_pay4,
    k0_pay6 (blk1 m c t) (blk2 m c t), counts (blk1 m c t))

/-- The scratch after any other point, out of what the point before left. -/
def nextScr (c : Dev nD) (t : Fin cfg0.N) (s : Vec F S1024x1024 .f32 × Vec F S16x1024 .f32 × Vec F S16 .i32) :
    Vec F S1024x1024 .f32 × Vec F S16x1024 .f32 × Vec F S16 .i32 :=
  (pass (grid0.coords t) (blk0 m c t) (blk1 m c t) (blk3 m c t) (blk4 m c t) (blk5 m c t) s.2.1 s.2.2 s.1, s.2.1, s.2.2)

/-- The scratch after point `n`. -/
def scrAt (c : Dev nD) : (n : ℕ) → n < cfg0.N → Vec F S1024x1024 .f32 × Vec F S16x1024 .f32 × Vec F S16 .i32
  | 0, h => firstScr m c ⟨0, h⟩
  | n + 1, h => if (n + 1) % 8 = 0 then firstScr m c ⟨n + 1, h⟩ else nextScr m c ⟨n + 1, h⟩ (scrAt c n (Nat.lt_of_succ_lt h))

theorem scrAt_first (c : Dev nD) (t : Fin cfg0.N) (h0 : t.val % 8 = 0) : scrAt m c t.val t.isLt = firstScr m c t := by
  obtain ⟨n, hn⟩ := t
  cases n with
  | zero => rfl
  | succ n => exact if_pos h0

theorem scrAt_next (c : Dev nD) (t : Fin cfg0.N) (h0 : ¬ t.val % 8 = 0) :
    scrAt m c t.val t.isLt = nextScr m c t (scrAt m c (t.val - 1) (by omega)) := by
  obtain ⟨n, hn⟩ := t
  cases n with
  | zero => exact absurd rfl h0
  | succ n => exact if_neg h0

/-- The finished rows of a block, at its last point. -/
def rowsAt (c : Dev nD) (t : Fin cfg0.N) : Vec F S1024x1024 .f32 :=
  k0_pay3 (blk6 m c t) (modRow (blk7 m c t)) (scrAt m c t.val t.isLt).1 (blk8 m c t)

/-- The last point of the prompt block the first result's buffer is at. -/
def last9 (t : Fin cfg0.N) : Fin cfg0.N := ⟨min (8 * (t.val / 8) + 7) 31, by have : cfg0.N = 288 := N_0; omega⟩
/-- The last point of a point's block. -/
def last10 (t : Fin cfg0.N) : Fin cfg0.N := ⟨8 * (t.val / 8) + 7, by have : cfg0.N = 288 := N_0; have := t.isLt; omega⟩

theorem last9_self (t : Fin cfg0.N) (h : t.val % 8 = 7) (h' : t.val < 32) : last9 t = t := Fin.ext (by show min _ _ = _; omega)
theorem last10_self (t : Fin cfg0.N) (h : t.val % 8 = 7) : last10 t = t := Fin.ext (by show 8 * (t.val / 8) + 7 = _; omega)
theorem last9_pred (t : Fin cfg0.N) (h : 32 ≤ t.val) : last9 t = last9 ⟨t.val - 1, by omega⟩ :=
  Fin.ext (by show min _ _ = min (8 * ((t.val - 1) / 8) + 7) 31; omega)

/-- The invariant before position `n`: before the first point every scratch at anything; then at what the point before left. -/
def inv (c : Dev nD) : (n : ℕ) → n ≤ cfg0.N → sProp 𝕄
  | 0, _ => Pipeline.ΦA spec0 c
  | n + 1, hn => iprop(iprop(owns (c : Thread nD τ) scA fullShare (scrAt m c n hn).1 ∗ owns (c : Thread nD τ) scR fullShare (scrAt m c n hn).2.1
      ∗ owns (c : Thread nD τ) scN fullShare (scrAt m c n hn).2.2) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop(owns (c : Thread nD τ) scA fullShare (scrAt m c (n - 1) (by omega)).1 ∗ owns (c : Thread nD τ) scR fullShare (scrAt m c (n - 1) (by omega)).2.1
      ∗ owns (c : Thread nD τ) scN fullShare (scrAt m c (n - 1) (by omega)).2.2) ∗ (∃ r, prngReg c r)) := by
  cases n with
  | zero => exact absurd rfl hz
  | succ n => rfl

/-- The pipeline's proof data: the arrays as the region finds them, each input's buffer at its block, the results' at the
    finished rows, the scratch as `inv` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowsAt m c (last9 t)
    | ⟨10, _⟩ => rowsAt m c (last10 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = rowsAt m c (last9 t) := by dsimp only [dats]
theorem after10 (c : Dev nD) (t : Fin cfg0.N) : (dats m 0 c).after 10 t = rowsAt m c (last10 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem leaves0 (c : Dev nD) (t : Fin cfg0.N) : (dats m 0 c).leavesExact 0 t = owns (c : Thread nD τ) (st0 t) fullShare (iblk m c 0 t) := by
  unfold Dat.leavesExact; rw [live0 t, after0]
theorem leaves1 (c : Dev nD) (t : Fin cfg0.N) : (dats m 0 c).leavesExact 1 t = owns (c : Thread nD τ) (st1 t) fullShare (iblk m c 1 t) := by
  unfold Dat.leavesExact; rw [live1 t, after1]
theorem leaves2 (c : Dev nD) (t : Fin cfg0.N) : (dats m 0 c).leavesExact 2 t = owns (c : Thread nD τ) (st2 t) fullShare (iblk m c 2 t) := by
  unfold Dat.leavesExact; rw [live2 t, after2]
theorem leaves3 (c : Dev nD) (t : Fin cfg0.N) : (dats m 0 c).leavesExact 3 t = owns (c : Thread nD τ) (st3 t) fullShare (iblk m c 3 t) := by
  unfold Dat.leavesExact; rw [live3 t, after3]
theorem leaves4 (c : Dev nD) (t : Fin cfg0.N) : (dats m 0 c).leavesExact 4 t = owns (c : Thread nD τ) (st4 t) fullShare (iblk m c 4 t) := by
  unfold Dat.leavesExact; rw [live4 t, after4]
theorem leaves5 (c : Dev nD) (t : Fin cfg0.N) : (dats m 0 c).leavesExact 5 t = owns (c : Thread nD τ) (st5 t) fullShare (iblk m c 5 t) := by
  unfold Dat.leavesExact; rw [live5 t, after5]
theorem leaves6 (c : Dev nD) (t : Fin cfg0.N) : (dats m 0 c).leavesExact 6 t = owns (c : Thread nD τ) (st6 t) fullShare (iblk m c 6 t) := by
  unfold Dat.leavesExact; rw [live6 t, after6]
theorem leaves7 (c : Dev nD) (t : Fin cfg0.N) : (dats m 0 c).leavesExact 7 t = owns (c : Thread nD τ) (st7 t) fullShare (iblk m c 7 t) := by
  unfold Dat.leavesExact; rw [live7 t, after7]
theorem leaves8 (c : Dev nD) (t : Fin cfg0.N) : (dats m 0 c).leavesExact 8 t = owns (c : Thread nD τ) (st8 t) fullShare (iblk m c 8 t) := by
  unfold Dat.leavesExact; rw [live8 t, after8]

/-- A point that stores into the first result's buffer leaves it at the finished rows. -/
theorem leaves9_live (c : Dev nD) (t : Fin cfg0.N) (h : t.val % 8 = 7) (h' : t.val < 32) :
    (dats m 0 c).leavesExact 9 t = owns (c : Thread nD τ) (st9 t) fullShare (rowsAt m c t) := by
  unfold Dat.leavesExact; rw [live9 t h h', after9, last9_self t h h']
theorem leaves10_live (c : Dev nD) (t : Fin cfg0.N) (h : t.val % 8 = 7) (h' : 32 ≤ t.val) :
    (dats m 0 c).leavesExact 10 t = owns (c : Thread nD τ) (st10 t) fullShare (rowsAt m c t) := by
  unfold Dat.leavesExact; rw [live10 t h h', after10, last10_self t h]

/-- At the very end the first result's buffer holds the last prompt block's rows. -/
theorem before9_end (c : Dev nD) (t : Fin cfg0.N) (h : t.val = 287) (d) : (dats m 0 c).before 9 t d = (dats m 0 c).after 9 t := by
  have key := (dats m 0 c).before_out_traj 9 rfl (fun _ _ => rfl)
    (fun s hs _ hf => by
      have h32 : 32 ≤ s.val := by
        by_contra hlt
        rw [fresh9 s (by omega)] at hf
        exact absurd hf (by decide)
      rw [after9, after9, last9_pred s h32]) t.val t rfl d
  have hf : cfg0.fresh 9 t.val = false := by rw [h]; exact fresh9_end
  rw [key, hf, if_neg Bool.false_ne_true, after9, after9, last9_pred t (by omega)]

/-- A point that does not store into the first result's buffer hands it back as found. -/
theorem leaves9_idle (c : Dev nD) (t : Fin cfg0.N) (h : ¬ (t.val % 8 = 7 ∧ t.val < 32)) (d) :
    owns (c : Thread nD τ) (st9 t) fullShare ((dats m 0 c).before 9 t d) ⊢ ((dats m 0 c).leavesExact 9 t : sProp 𝕄) := by
  cases hf : (cfg0.win 9).flush t with
  | false =>
    rw [Dat.leavesExact_idle (dats m 0 c) 9 t (idle9 t h) hf]
    iintro H; iexists _; iexact H
  | true =>
    have h7 : t.val = 287 := by
      rcases flush9 t hf with h' | h'
      · exact absurd ⟨h'.1, by omega⟩ h
      · exact h'
    unfold Dat.leavesExact
    rw [idle9 t h, hf, before9_end m c t h7]

theorem leaves10_idle (c : Dev nD) (t : Fin cfg0.N) (h : ¬ (t.val % 8 = 7 ∧ 32 ≤ t.val)) (d) :
    owns (c : Thread nD τ) (st10 t) fullShare ((dats m 0 c).before 10 t d) ⊢ ((dats m 0 c).leavesExact 10 t : sProp 𝕄) := by
  rw [Dat.leavesExact_idle (dats m 0 c) 10 t (idle10 t h) (noFlush10 t h)]
  iintro H
  iexists _
  iexact H

end Cert.KernelIdeal.Moe

end
-- ==== Proof.Whole.lean ====
module

public import proofs.«01_k».proof.Proof.Data
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-! ## The body at every point -/

/-- What the body is called with at a point, -/
def before (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))

/-- and what it returns. -/
def leaves (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem inv_succ (c : Dev nD) (t : Fin cfg0.N) : (dats m 0 c).Φ t.succ
    = iprop(iprop(owns (c : Thread nD τ) scA fullShare (scrAt m c t.val t.isLt).1 ∗ owns (c : Thread nD τ) scR fullShare (scrAt m c t.val t.isLt).2.1
      ∗ owns (c : Thread nD τ) scN fullShare (scrAt m c t.val t.isLt).2.2) ∗ (∃ r, prngReg c r)) := rfl

set_option maxHeartbeats 4000000 in
/-- A block's first point. -/
theorem body_first (c : Dev nD) (t : Fin cfg0.N) (h0 : t.val % 8 = 0) :
    before m c t ⊢ wp frame (wpE (defs₀ (F := F)) Variants.none c none) Set.univ (bodyAt0 t) (fun _ => leaves m c t) := by
  unfold before leaves bodyAt0
  simp only [before0, before1, before2, before3, before4, before5, before6, before7, before8]
  rw [show (dats m 0 c).owesAt () t.succ = (dats m 0 c).owesAt () t.castSucc from rfl, inv_succ, inv_castSucc]
  simp only [leaves0, leaves1, leaves2, leaves3, leaves4, leaves5, leaves6, leaves7, leaves8]
  rw [scrAt_first m c t h0]
  by_cases hz : t.val = 0
  · rw [inv_zero m c t.val _ hz, start_eq]
    iintro ⟨⟨⟨⟨%a, HA⟩, ⟨%r, HR⟩, ⟨%n, HN⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) scA (Memref.isWhole_whole _) scR (Memref.isWhole_whole _) scN (Memref.isWhole_whole _) ((isFirst_iff t).mpr h0) (fun h => absurd ((cond2_iff t).mp h) (by omega)) (blk0 m c t) (blk1 m c t) (blk2 m c t) (blk3 m c t) (blk4 m c t) (blk5 m c t) (blk6 m c t) (blk7 m c t) (blk8 m c t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HR]; · iexact HR
    isplitl [HN]; · iexact HN
    iintro ⟨H0, H1, H2, H3, H4, H5, H6, H7, H8, H9, H10, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves9_idle m c t (by omega) d9); iexact H9
    iapply (leaves10_idle m c t (by omega) d10); iexact H10
  · rw [inv_pos m c t.val _ hz]
    iintro ⟨⟨⟨HA, HR, HN⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) scA (Memref.isWhole_whole _) scR (Memref.isWhole_whole _) scN (Memref.isWhole_whole _) ((isFirst_iff t).mpr h0) (fun h => absurd ((cond2_iff t).mp h) (by omega)) (blk0 m c t) (blk1 m c t) (blk2 m c t) (blk3 m c t) (blk4 m c t) (blk5 m c t) (blk6 m c t) (blk7 m c t) (blk8 m c t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HR]; · iexact HR
    isplitl [HN]; · iexact HN
    iintro ⟨H0, H1, H2, H3, H4, H5, H6, H7, H8, H9, H10, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves9_idle m c t (by omega) d9); iexact H9
    iapply (leaves10_idle m c t (by omega) d10); iexact H10

set_option maxHeartbeats 4000000 in
/-- A point in the middle of a block. -/
theorem body_mid (c : Dev nD) (t : Fin cfg0.N) (h0 : ¬ t.val % 8 = 0) (h7 : ¬ t.val % 8 = 7) :
    before m c t ⊢ wp frame (wpE (defs₀ (F := F)) Variants.none c none) Set.univ (bodyAt0 t) (fun _ => leaves m c t) := by
  unfold before leaves bodyAt0
  simp only [before0, before1, before2, before3, before4, before5, before6, before7, before8]
  rw [show (dats m 0 c).owesAt () t.succ = (dats m 0 c).owesAt () t.castSucc from rfl, inv_succ, inv_castSucc]
  simp only [leaves0, leaves1, leaves2, leaves3, leaves4, leaves5, leaves6, leaves7, leaves8]
  · rw [inv_pos m c t.val _ (by omega)]
    rw [scrAt_next m c t (by omega)]
    iintro ⟨⟨⟨HA, HR, HN⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_mid c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) scA (Memref.isWhole_whole _) scR (Memref.isWhole_whole _) scN (Memref.isWhole_whole _) (fun h => h0 ((isFirst_iff t).mp h)) (fun h => h7 ((cond2_iff t).mp h)) (blk0 m c t) (blk1 m c t) (blk2 m c t) (blk3 m c t) (blk4 m c t) (blk5 m c t) (blk6 m c t) (blk7 m c t) (blk8 m c t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HR]; · iexact HR
    isplitl [HN]; · iexact HN
    iintro ⟨H0, H1, H2, H3, H4, H5, H6, H7, H8, H9, H10, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves9_idle m c t (by omega) d9); iexact H9
    iapply (leaves10_idle m c t (by omega) d10); iexact H10

set_option maxHeartbeats 4000000 in
/-- The last point of a prompt block. -/
theorem body_prompt (c : Dev nD) (t : Fin cfg0.N) (h7 : t.val % 8 = 7) (h32 : t.val < 32) :
    before m c t ⊢ wp frame (wpE (defs₀ (F := F)) Variants.none c none) Set.univ (bodyAt0 t) (fun _ => leaves m c t) := by
  unfold before leaves bodyAt0
  simp only [before0, before1, before2, before3, before4, before5, before6, before7, before8]
  rw [show (dats m 0 c).owesAt () t.succ = (dats m 0 c).owesAt () t.castSucc from rfl, inv_succ, inv_castSucc]
  simp only [leaves0, leaves1, leaves2, leaves3, leaves4, leaves5, leaves6, leaves7, leaves8]
  rw [leaves9_live m c t h7 h32]
  · rw [inv_pos m c t.val _ (by omega)]
    unfold rowsAt
    rw [scrAt_next m c t (by omega)]
    iintro ⟨⟨⟨HA, HR, HN⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_prompt c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) scA (Memref.isWhole_whole _) scR (Memref.isWhole_whole _) scN (Memref.isWhole_whole _) (fun h => absurd ((isFirst_iff t).mp h) (by omega)) ((cond2_iff t).mpr h7) ((cond3_iff t).mpr h32) (fun h => absurd ((cond4_iff t).mp h) (by omega)) (blk0 m c t) (blk1 m c t) (blk2 m c t) (blk3 m c t) (blk4 m c t) (blk5 m c t) (blk6 m c t) (blk7 m c t) (blk8 m c t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HR]; · iexact HR
    isplitl [HN]; · iexact HN
    iintro ⟨H0, H1, H2, H3, H4, H5, H6, H7, H8, H9, H10, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves10_idle m c t (by omega) d10); iexact H10

set_option maxHeartbeats 4000000 in
/-- The last point of a sample block. -/
theorem body_sample (c : Dev nD) (t : Fin cfg0.N) (h7 : t.val % 8 = 7) (h32 : 32 ≤ t.val) :
    before m c t ⊢ wp frame (wpE (defs₀ (F := F)) Variants.none c none) Set.univ (bodyAt0 t) (fun _ => leaves m c t) := by
  unfold before leaves bodyAt0
  simp only [before0, before1, before2, before3, before4, before5, before6, before7, before8]
  rw [show (dats m 0 c).owesAt () t.succ = (dats m 0 c).owesAt () t.castSucc from rfl, inv_succ, inv_castSucc]
  simp only [leaves0, leaves1, leaves2, leaves3, leaves4, leaves5, leaves6, leaves7, leaves8]
  rw [leaves10_live m c t h7 h32]
  · rw [inv_pos m c t.val _ (by omega)]
    unfold rowsAt
    rw [scrAt_next m c t (by omega)]
    iintro ⟨⟨⟨HA, HR, HN⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_sample c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) scA (Memref.isWhole_whole _) scR (Memref.isWhole_whole _) scN (Memref.isWhole_whole _) (fun h => absurd ((isFirst_iff t).mp h) (by omega)) ((cond2_iff t).mpr h7) (fun h => absurd ((cond3_iff t).mp h) (by omega)) ((cond4_iff t).mpr h32) (blk0 m c t) (blk1 m c t) (blk2 m c t) (blk3 m c t) (blk4 m c t) (blk5 m c t) (blk6 m c t) (blk7 m c t) (blk8 m c t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HR]; · iexact HR
    isplitl [HN]; · iexact HN
    iintro ⟨H0, H1, H2, H3, H4, H5, H6, H7, H8, H9, H10, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves9_idle m c t (by omega) d9); iexact H9
    iexact H10

/-- The body at any point. -/
theorem body (c : Dev nD) (t : Fin cfg0.N) :
    before m c t ⊢ wp frame (wpE (defs₀ (F := F)) Variants.none c none) Set.univ (bodyAt0 t) (fun _ => leaves m c t) := by
  by_cases h0 : t.val % 8 = 0
  · exact body_first m c t h0
  by_cases h7 : t.val % 8 = 7
  · by_cases h32 : t.val < 32
    · exact body_prompt m c t h7 h32
    · exact body_sample m c t h7 (by omega)
  · exact body_mid m c t h0 h7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  have hN : cfg0.N = 288 := N_0
  rw [show (dats m 0 c).Φ (Fin.last cfg0.N) = inv m c cfg0.N le_rfl from rfl, inv_pos m c _ _ (by omega), start_eq]
  iintro ⟨⟨HA, HR, HN⟩, Hg⟩
  isplitl [HA HR HN]
  · isplitl [HA]
    · iexists _; iexact HA
    isplitl [HR]
    · iexists _; iexact HR
    iexists _; iexact HN
  iexact Hg

/-! ## The run and the frame -/

set_option backward.isDefEq.respectTransparency.types false in
/-- Every execution ends with the arrays at what the proof data say and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: every execution ends, the argument arrays as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.KernelIdeal.Moe

end
-- ==== Proof.Same.lean ====
module

public import proofs.«01_k».proof.Proof.Gen.Kernel
public import proofs.«01_k».proof.Proof.Gen.KernelIdeal

@[expose] public section

set_option maxRecDepth 16384

noncomputable section

/-! The two printed kernels are one program. -/

namespace Cert.Proof

open Idealize.ShloMosaic

attribute [local instance] Cert.Kernel.Gen.facts Cert.KernelIdeal.Gen.facts

variable {F : FTy → Type} [FloatOps F]

set_option maxHeartbeats 2000000 in
theorem main_same : Cert.Kernel.main (F := F) = Cert.KernelIdeal.main (F := F) := by
  unfold Cert.Kernel.main Cert.KernelIdeal.main Cert.Kernel.fn_triu.body Cert.KernelIdeal.fn_triu.body
  rfl

set_option maxHeartbeats 2000000 in
theorem bodies_same : Cert.Kernel.defs₀ (F := F) = Cert.KernelIdeal.defs₀ (F := F) := by
  unfold Cert.Kernel.defs₀ Cert.KernelIdeal.defs₀
  congr 1
  funext f
  match f with
  | 0 => rfl

theorem defs_same : Cert.Kernel.defs (F := F) = Cert.KernelIdeal.defs (F := F) := by
  unfold Cert.Kernel.defs Cert.KernelIdeal.defs
  exact congrArg (Pipeline.defs Cert.KernelIdeal.pcfgs) bodies_same

end Cert.Proof

end
-- ==== Proof.Frames.lean ====
module

public import proofs.«01_k».proof.Proof.Whole
public import proofs.«01_k».proof.Proof.Same
public import proofs.«01_k».proof.Proof.Gen.ReferenceIdeal.Run
public import proofs.«01_k».proof.Defs

@[expose] public section

noncomputable section

namespace Cert.Proof

open Idealize.ShloMosaic Idealize.SL.Sem Idealize.ShloMosaic.Rounds

attribute [local instance] Cert.Kernel.Gen.facts Cert.KernelIdeal.Gen.facts Cert.ReferenceIdeal.Gen.facts

/-- The kernel's frame: the run of `KernelIdeal` at the machine's own floats. -/
theorem frame_kernel : Cert.quiescent_Kernel := fun m ρ _ => by
  rw [defs_same, main_same]
  exact Cert.KernelIdeal.Moe.frame_run (F := Bits) m ρ

/-- The idealized kernel's frame. -/
theorem frame_ideal : Cert.quiescent_KernelIdeal := fun m ρ _ => Cert.KernelIdeal.Moe.frame_run (F := Ideal) m ρ

/-- The reference's frame. -/
theorem frame_ref : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

theorem preserves : Cert.preserves_Kernel_KernelIdeal := trivial

end Cert.Proof

end
-- ==== Proof.BlockValue.lean ====
module

public import proofs.«01_k».proof.Proof.Pass
public import Idealize.ShloMosaic.Lib.Pointwise
public import Idealize.ShloMosaic.Lib.IdealHost

@[expose] public section

set_option maxRecDepth 16384

noncomputable section

/-!
  What the loop over blocks of 160 selected tokens computes, over the extended reals.

  A token's slot is its rank among the selected tokens of its block, `-1` when it is not selected. Trip `k` gathers the
  tokens of ranks `160 k … 160 k + 159` by a 0/1 matrix, runs the expert on them, scales by the gate and scatters back by
  the transposed matrix. As ranks are distinct, each selected token is served in exactly one trip, so after enough trips
  every selected token has received its expert's row times its gate, and no other token anything.
-/

namespace Cert.KernelIdeal.Moe

open Idealize.ShloMosaic
open Cert.KernelIdeal Cert.KernelIdeal.Gen

/-- One entry of the gated two-layer map of one expert: `x` a token's row. -/
def ffn (x : Fin 1024 → EReal) (wg wu : Fin 1024 → Fin 512 → EReal) (wd : Fin 512 → Fin 1024 → EReal) (d : Fin 1024) : EReal :=
  ∑ f : Fin 512, ((∑ k, x k * wg k f) * Ideal.logistic (∑ k, x k * wg k f) * ∑ k, x k * wu k f) * wd f d

/-- A token's slot: its rank when selected, `-1` when not. -/
def slotOf (p : Prop) [Decidable p] (n : ℕ) : EReal := if p then ((n : ℝ) : EReal) else ((-1 : ℝ) : EReal)

/-- The word that trip `k` multiplies by 160. -/
theorem trip_word : ∀ k : Fin 7, (Scalar.muli (Scf.iv 0#32 1#32 k.val) 160#32).toInt = 160 * (k.val : ℤ) := by decide

/-- Lane `r` of trip `k` holds the selected token of rank `160 k + r`. -/
theorem lane_eq_iff (p : Prop) [Decidable p] (n r k : ℕ) :
    (((r : ℝ) : EReal) = slotOf p n - (((160 * (k : ℤ) : ℤ) : ℝ) : EReal)) ↔ (p ∧ n = 160 * k + r) := by
  unfold slotOf
  split
  · rename_i h
    rw [← EReal.coe_sub, EReal.coe_eq_coe_iff]
    push_cast
    constructor
    · intro e
      refine ⟨h, ?_⟩
      have : (n : ℝ) = ((160 * k + r : ℕ) : ℝ) := by push_cast; linarith
      exact_mod_cast this
    · rintro ⟨-, e⟩
      subst e
      push_cast
      ring
  · rename_i h
    rw [← EReal.coe_sub, EReal.coe_eq_coe_iff]
    push_cast
    constructor
    · intro e
      have h1 : (0 : ℝ) ≤ r := Nat.cast_nonneg r
      have h2 : (0 : ℝ) ≤ k := Nat.cast_nonneg k
      linarith
    · rintro ⟨h', -⟩
      exact absurd h' h

/-- A lane of the row index, as a number. -/
theorem lane_at (r : Fin 160) (t : Fin 1024) : k0_pay27 (F := Ideal) (ix2 r t) = ((r.val : ℝ) : EReal) := by
  pointwise [k0_pay27]
  show (((BitVec.ofNat 32 r.val).toInt : ℝ) : EReal) = _
  rw [show (BitVec.ofNat 32 r.val).toInt = (r.val : ℤ) from
    (by decide : ∀ r : Fin 160, (BitVec.ofNat 32 r.val).toInt = (r.val : ℤ)) r]
  push_cast
  rfl

section
variable {sel : Fin 1024 → Prop} [DecidablePred sel] {rank : Fin 1024 → ℕ}

/-- Gathering by ranks: a lane that holds `t` reads `t`'s entry. -/
theorem gather (inj : ∀ s t, sel s → sel t → rank s = rank t → s = t) (h : Fin 1024 → EReal) {t : Fin 1024} (ht : sel t) (n : ℕ)
    (hn : rank t = n) : ∑ s, (if sel s ∧ rank s = n then (1 : EReal) else 0) * h s = h t := by
  rw [Finset.sum_eq_single t]
  · rw [if_pos ⟨ht, hn⟩, one_mul]
  · intro s _ hs
    rw [if_neg fun hc => hs (inj s t hc.1 ht (hc.2.trans hn.symm)), zero_mul]
  · exact fun hc => absurd (Finset.mem_univ t) hc

set_option maxHeartbeats 2000000 in
/-- One trip, at one entry. -/
theorem blockStep_value (inj : ∀ s t, sel s → sel t → rank s = rank t → s = t)
    (g slot : Vec Ideal S1x1024 .f32) (hs : ∀ t, slot (ix2 0 t) = slotOf (sel t) (rank t)) (k : ℕ) (hk : k < 7)
    (hf : Vec Ideal S1024x1024 .bf16)
    (wg wu : Vec Ideal S1x1024x512 .bf16) (wd : Vec Ideal S1x512x1024 .bf16) (a : Vec Ideal S1024x1024 .f32) (t d : Fin 1024) :
    blockStep k0_pay27 g slot (Scf.iv 0#32 1#32 k) hf wg wu wd a (ix2 t d)
      = a (ix2 t d) + if sel t ∧ rank t / 160 = k then
          ffn (fun q => hf (ix2 t q)) (fun q f => wg (ix3 0 q f)) (fun q f => wu (ix3 0 q f)) (fun f q => wd (ix3 0 f q)) d * g (ix2 0 t) else 0 := by
  have hw : (Scalar.muli (Scf.iv 0#32 1#32 k) 160#32).toInt = 160 * (k : ℤ) := trip_word ⟨k, hk⟩
  pointwise [blockStep]
  simp only [lane_at, hs, hw, lane_eq_iff]
  congr 1
  by_cases hc : sel t ∧ rank t / 160 = k
  · rw [if_pos hc]
    have hr : rank t = 160 * k + rank t % 160 := by omega
    have hlt : rank t % 160 < 160 := Nat.mod_lt _ (by norm_num)
    rw [Finset.sum_eq_single (⟨rank t % 160, hlt⟩ : Fin 160)]
    · rw [if_pos ⟨hc.1, hr⟩, one_mul]
      simp only [gather inj _ hc.1 _ hr]
      rfl
    · intro r _ hne
      rw [if_neg, zero_mul]
      rintro ⟨-, e⟩
      exact hne (Fin.ext (by show r.val = rank t % 160; omega))
    · exact fun h => absurd (Finset.mem_univ _) h
  · rw [if_neg hc]
    refine Finset.sum_eq_zero fun r _ => ?_
    rw [if_neg, zero_mul]
    rintro ⟨h1, e⟩
    exact hc ⟨h1, by have := r.isLt; omega⟩

/-- The first `k` trips, at one entry. -/
theorem blocks_value (inj : ∀ s t, sel s → sel t → rank s = rank t → s = t)
    (g slot : Vec Ideal S1x1024 .f32) (hs : ∀ t, slot (ix2 0 t) = slotOf (sel t) (rank t))
    (hf : Vec Ideal S1024x1024 .bf16)
    (wg wu : Vec Ideal S1x1024x512 .bf16) (wd : Vec Ideal S1x512x1024 .bf16) (a : Vec Ideal S1024x1024 .f32) (t d : Fin 1024)
    (k : ℕ) (hk : k ≤ 7) :
    blocks k0_pay27 g slot hf wg wu wd k a (ix2 t d)
      = a (ix2 t d) + if sel t ∧ rank t / 160 < k then
          ffn (fun q => hf (ix2 t q)) (fun q f => wg (ix3 0 q f)) (fun q f => wu (ix3 0 q f)) (fun f q => wd (ix3 0 f q)) d * g (ix2 0 t) else 0 := by
  induction k with
  | zero =>
    rw [if_neg (by omega), add_zero]
    rfl
  | succ k ih =>
    show blockStep k0_pay27 g slot (Scf.iv 0#32 1#32 k) hf wg wu wd (blocks k0_pay27 g slot hf wg wu wd k a) (ix2 t d) = _
    rw [blockStep_value inj g slot hs k (by omega), ih (by omega), add_assoc]
    congr 1
    by_cases h : sel t
    · rcases Nat.lt_trichotomy (rank t / 160) k with h1 | h1 | h1
      · rw [if_pos ⟨h, h1⟩, if_neg (by omega), if_pos ⟨h, by omega⟩, add_zero]
      · rw [if_neg (by omega), if_pos ⟨h, h1⟩, if_pos ⟨h, by omega⟩, zero_add]
      · rw [if_neg (by omega), if_neg (by omega), if_neg (by omega), add_zero]
    · rw [if_neg fun hc => h hc.1, if_neg fun hc => h hc.1, if_neg fun hc => h hc.1, add_zero]

/-- All the trips that `n` selected tokens take, when a token that is not selected has gate zero. -/
theorem blocks_all (inj : ∀ s t, sel s → sel t → rank s = rank t → s = t) {n : ℕ} (hn : n ≤ 1024) (hlt : ∀ t, sel t → rank t < n)
    (g slot : Vec Ideal S1x1024 .f32) (hs : ∀ t, slot (ix2 0 t) = slotOf (sel t) (rank t)) (h0 : ∀ t, ¬ sel t → g (ix2 0 t) = 0)
    (hf : Vec Ideal S1024x1024 .bf16)
    (wg wu : Vec Ideal S1x1024x512 .bf16) (wd : Vec Ideal S1x512x1024 .bf16) (a : Vec Ideal S1024x1024 .f32) (t d : Fin 1024)  :
    blocks k0_pay27 g slot hf wg wu wd ((n + 159) / 160) a (ix2 t d)
      = a (ix2 t d) +
          ffn (fun q => hf (ix2 t q)) (fun q f => wg (ix3 0 q f)) (fun q f => wu (ix3 0 q f)) (fun f q => wd (ix3 0 f q)) d * g (ix2 0 t) := by
  rw [blocks_value inj g slot hs hf wg wu wd a t d _ (by omega)]
  congr 1
  by_cases h : sel t
  · rw [if_pos ⟨h, by have := hlt t h; omega⟩]
  · rw [if_neg fun hc => h hc.1, h0 t h, mul_zero]

end

end Cert.KernelIdeal.Moe

end
-- ==== Proof.Ranks.lean ====
module

public import proofs.«01_k».proof.Proof.RunFirst
public import proofs.«01_k».proof.Proof.BlockValue

@[expose] public section

set_option maxRecDepth 16384

noncomputable section

/-!
  Ranks and counts over the extended reals: the product with the triangle of ones counts, for each token, the selected tokens
  before it; the sixteen sums count the selected tokens of a block.
-/

namespace Cert.KernelIdeal.Moe

open Idealize.ShloMosaic
open Cert.KernelIdeal Cert.KernelIdeal.Gen

/-- A sum of ones and zeros is a count. -/
theorem sum_indicator {ι : Type} [DecidableEq ι] (s : Finset ι) (p : ι → Prop) [DecidablePred p] :
    ∑ x ∈ s, (if p x then (1 : EReal) else 0) = (((s.filter p).card : ℝ) : EReal) := by
  induction s using Finset.induction_on with
  | empty => simp
  | insert a s ha ih =>
    rw [Finset.sum_insert ha, ih, Finset.filter_insert]
    split
    · rw [Finset.card_insert_of_notMem (by simp [ha])]
      push_cast
      rw [add_comm]
    · rw [zero_add]

/-- How many of the tokens before `t` satisfy `p`, -/
def earlier (p : Fin 1024 → Prop) [DecidablePred p] (t : Fin 1024) : ℕ := (Finset.univ.filter fun s => p s ∧ s < t).card
/-- and how many in all. -/
def total (p : Fin 1024 → Prop) [DecidablePred p] : ℕ := (Finset.univ.filter p).card

section
variable (p : Fin 1024 → Prop) [DecidablePred p]

theorem total_le : total p ≤ 1024 := (Finset.card_le_univ _).trans (by simp)

theorem before_lt_of_lt {s t : Fin 1024} (hs : p s) (h : s < t) : earlier p s < earlier p t := by
  refine Finset.card_lt_card ⟨fun x hx => ?_, fun hc => ?_⟩
  · simp only [Finset.mem_filter, Finset.mem_univ, true_and] at hx ⊢
    exact ⟨hx.1, hx.2.trans h⟩
  · have : s ∈ Finset.univ.filter fun x => p x ∧ x < t := by simp [hs, h]
    have := hc this
    simp at this

theorem before_lt_total {t : Fin 1024} (ht : p t) : earlier p t < total p := by
  refine Finset.card_lt_card ⟨fun x hx => ?_, fun hc => ?_⟩
  · simp only [Finset.mem_filter, Finset.mem_univ, true_and] at hx ⊢
    exact hx.1
  · have : t ∈ Finset.univ.filter p := by simp [ht]
    have := hc this
    simp at this

/-- Two selected tokens have different ranks. -/
theorem before_inj (s t : Fin 1024) (hs : p s) (ht : p t) (h : earlier p s = earlier p t) : s = t := by
  rcases lt_trichotomy s t with hl | hl | hl
  · exact absurd h (before_lt_of_lt p hs hl).ne
  · exact hl
  · exact absurd h (before_lt_of_lt p ht hl).ne'

end

/-- Token `t` is selected by expert `e`. -/
abbrev picked (x : Vec Ideal S16x1024 .f32) (e : Fin 16) (t : Fin 1024) : Prop := 0 < x (ix2 e t)

/-- The product with the strict triangle of ones is the rank. -/
theorem rank_at (x : Vec Ideal S16x1024 .f32) (tri : Vec Ideal S1024x1024 .bf16) (htri : ∀ s t, tri (ix2 s t) = if s < t then 1 else 0)
    (e : Fin 16) (t : Fin 1024) : k0_pay6 (F := Ideal) x tri (ix2 e t) = ((earlier (picked x e) t : ℝ) : EReal) := by
  pointwise [k0_pay6, k0_pay5]
  unfold earlier
  rw [← sum_indicator]
  refine Finset.sum_congr rfl fun s _ => ?_
  rw [htri]
  by_cases h1 : 0 < x (ix2 e s) <;> by_cases h2 : s < t <;> simp [h1, h2, picked]

/-- The conversion of a count to a word. -/
theorem fptosi_count (n : ℕ) (h : n ≤ 1024) : (Scalar.fptosi (F := Ideal) (φ := .f32) 32 ((n : ℝ) : EReal) : BitVec 32) = BitVec.ofNat 32 n := by
  show Ideal.fptosi 32 ((n : ℝ) : EReal) = _
  rw [Ideal.fptosi, Ideal.toIntClamped_coe, if_pos (Nat.cast_nonneg n), Int.floor_natCast]
  rw [show max (-((2 ^ (32 - 1) : ℕ) : ℤ)) (min (((2 ^ (32 - 1) : ℕ) : ℤ) - 1) (n : ℤ)) = (n : ℤ) by norm_num; omega]
  exact BitVec.ofInt_natCast 32 n

/-- The count of expert `e`. -/
theorem count_at (x : Vec Ideal S16x1024 .f32) (e : Fin 16) : counts x (ix1 e) = BitVec.ofNat 32 (total (picked x e)) := by
  rw [← fptosi_count _ (total_le _)]
  have key : ∀ e : Fin 16, (∑ _ : Fin 1, ∑ t : Fin 1024, if 0 < x (ix2 e t) then (1 : EReal) else 0) = ((total (picked x e) : ℝ) : EReal) := by
    intro e
    rw [Fin.sum_univ_one]
    unfold total
    rw [← sum_indicator]
  rw [← key]
  fin_cases e
  · show (Scalar.fptosi 32 (k0_pay7 x) : BitVec 32) = _
    unfold k0_pay7; pointwise [k0_pay5]
  · show (Scalar.fptosi 32 (k0_pay8 x) : BitVec 32) = _
    unfold k0_pay8; pointwise [k0_pay5]
  · show (Scalar.fptosi 32 (k0_pay9 x) : BitVec 32) = _
    unfold k0_pay9; pointwise [k0_pay5]
  · show (Scalar.fptosi 32 (k0_pay10 (k0_pay5 x)) : BitVec 32) = _
    unfold k0_pay10; pointwise [k0_pay5]
  · show (Scalar.fptosi 32 (k0_pay11 (k0_pay5 x)) : BitVec 32) = _
    unfold k0_pay11; pointwise [k0_pay5]
  · show (Scalar.fptosi 32 (k0_pay12 (k0_pay5 x)) : BitVec 32) = _
    unfold k0_pay12; pointwise [k0_pay5]
  · show (Scalar.fptosi 32 (k0_pay13 (k0_pay5 x)) : BitVec 32) = _
    unfold k0_pay13; pointwise [k0_pay5]
  · show (Scalar.fptosi 32 (k0_pay14 (k0_pay5 x)) : BitVec 32) = _
    unfold k0_pay14; pointwise [k0_pay5]
  · show (Scalar.fptosi 32 (k0_pay15 (k0_pay5 x)) : BitVec 32) = _
    unfold k0_pay15; pointwise [k0_pay5]
  · show (Scalar.fptosi 32 (k0_pay16 (k0_pay5 x)) : BitVec 32) = _
    unfold k0_pay16; pointwise [k0_pay5]
  · show (Scalar.fptosi 32 (k0_pay17 (k0_pay5 x)) : BitVec 32) = _
    unfold k0_pay17; pointwise [k0_pay5]
  · show (Scalar.fptosi 32 (k0_pay18 (k0_pay5 x)) : BitVec 32) = _
    unfold k0_pay18; pointwise [k0_pay5]
  · show (Scalar.fptosi 32 (k0_pay19 (k0_pay5 x)) : BitVec 32) = _
    unfold k0_pay19; pointwise [k0_pay5]
  · show (Scalar.fptosi 32 (k0_pay20 (k0_pay5 x)) : BitVec 32) = _
    unfold k0_pay20; pointwise [k0_pay5]
  · show (Scalar.fptosi 32 (k0_pay21 (k0_pay5 x)) : BitVec 32) = _
    unfold k0_pay21; pointwise [k0_pay5]
  · show (Scalar.fptosi 32 (k0_pay26 (k0_pay5 x)) : BitVec 32) = _
    unfold k0_pay26; pointwise [k0_pay5]

/-- The pattern of minus one. -/
theorem ofBits_neg_one : Ideal.ofBits .f32 0xBF800000#32 = ((-1 : ℝ) : EReal) := by
  simp [Ideal.ofBits, Ideal.ieee, -EReal.coe_mul, -EReal.coe_neg]
  norm_num

/-- A selected token's slot. -/
theorem slot_at (g s : Vec Ideal S1x1024 .f32) (p : Fin 1024 → Prop) [DecidablePred p] (n : Fin 1024 → ℕ) (hp : ∀ t, p t ↔ 0 < g (ix2 0 t))
    (hn : ∀ t, s (ix2 0 t) = ((n t : ℝ) : EReal)) (t : Fin 1024) : k0_pay28 (F := Ideal) g s (ix2 0 t) = slotOf (p t) (n t) := by
  pointwise [k0_pay28]
  rw [ofBits_neg_one, hn]
  unfold slotOf
  by_cases h : 0 < g (ix2 0 t)
  · rw [if_pos h, if_pos ((hp t).2 h)]
  · rw [if_neg h, if_neg fun hc => h ((hp t).1 hc)]

end Cert.KernelIdeal.Moe

end
-- ==== Proof.PassValue.lean ====
module

public import proofs.«01_k».proof.Proof.Ranks

@[expose] public section

set_option maxRecDepth 16384

noncomputable section

/-!
  What one grid point adds to the accumulator, over the extended reals: the rows of its two experts, each times its gate.
-/

namespace Cert.KernelIdeal.Moe

open Idealize.ShloMosaic
open Cert.KernelIdeal Cert.KernelIdeal.Gen

theorem off1_val : ∀ e : Fin 8, (Scalar.indexCast (Scalar.addi (Scalar.muli (BitVec.ofNat 32 e.val) 2#32) 0#32)).toNat = 2 * e.val := by decide
theorem off3_val : ∀ e : Fin 8, (Scalar.indexCast (Scalar.addi (Scalar.muli (BitVec.ofNat 32 e.val) 2#32) 1#32)).toNat = 2 * e.val + 1 := by decide

/-- The first expert of pair `e` -/
def expA (e : Fin 8) : Fin 16 := ⟨2 * e.val, by omega⟩
/-- and the second. -/
def expB (e : Fin 8) : Fin 16 := ⟨2 * e.val + 1, by omega⟩

theorem rowA_at (i : grid0.Coords) (e : Fin 8) (he : (i 1).val = e.val) (x : Vec Ideal S16x1024 .f32) (t : Fin 1024) : rowA i x (ix2 0 t) = x (ix2 (expA e) t) := by
  pointwise [rowA]
  congr 1
  refine congrArg₂ ix2 (Fin.ext ?_) (Fin.ext ?_)
  · show (Scalar.indexCast (Scalar.addi (Scalar.muli (BitVec.ofNat 32 (i 1).val) 2#32) 0#32)).toNat = 2 * e.val
    rw [he]; exact off1_val e
  · exact Nat.zero_add _

theorem rowB_at (i : grid0.Coords) (e : Fin 8) (he : (i 1).val = e.val) (x : Vec Ideal S16x1024 .f32) (t : Fin 1024) : rowB i x (ix2 0 t) = x (ix2 (expB e) t) := by
  pointwise [rowB]
  congr 1
  refine congrArg₂ ix2 (Fin.ext ?_) (Fin.ext ?_)
  · show (Scalar.indexCast (Scalar.addi (Scalar.muli (BitVec.ofNat 32 (i 1).val) 2#32) 1#32)).toNat = 2 * e.val + 1
    rw [he]; exact off3_val e
  · exact Nat.zero_add _

theorem cntA_at (i : grid0.Coords) (e : Fin 8) (he : (i 1).val = e.val) (x : Vec Ideal S16 .i32) : cntA i x = x (ix1 (expA e)) := by
  unfold cntA
  pointwise
  congr 1
  refine congrArg ix1 (Fin.ext ?_)
  show (Scalar.indexCast (Scalar.addi (Scalar.muli (BitVec.ofNat 32 (i 1).val) 2#32) 0#32)).toNat = 2 * e.val
  rw [he]; exact off1_val e

theorem cntB_at (i : grid0.Coords) (e : Fin 8) (he : (i 1).val = e.val) (x : Vec Ideal S16 .i32) : cntB i x = x (ix1 (expB e)) := by
  unfold cntB
  pointwise
  congr 1
  refine congrArg ix1 (Fin.ext ?_)
  show (Scalar.indexCast (Scalar.addi (Scalar.muli (BitVec.ofNat 32 (i 1).val) 2#32) 1#32)).toNat = 2 * e.val + 1
  rw [he]; exact off3_val e

/-- One point's pass, at one entry. -/
theorem pass_value (i : grid0.Coords) (e : Fin 8) (he : (i 1).val = e.val) (hf : Vec Ideal S1024x1024 .bf16) (gt : Vec Ideal S16x1024 .f32)
    (tri : Vec Ideal S1024x1024 .bf16) (htri : ∀ s t, tri (ix2 s t) = if s < t then 1 else 0) (h0 : ∀ e t, 0 ≤ gt (ix2 e t))
    (wg wu : Vec Ideal S2x1024x512 .bf16) (wd : Vec Ideal S2x512x1024 .bf16) (a : Vec Ideal S1024x1024 .f32) (t d : Fin 1024) :
    pass i hf gt wg wu wd (k0_pay6 gt tri) (counts gt) a (ix2 t d)
      = a (ix2 t d)
        + ffn (fun q => hf (ix2 t q)) (fun q f => wg (ix3 0 q f)) (fun q f => wu (ix3 0 q f)) (fun f q => wd (ix3 0 f q)) d * gt (ix2 (expA e) t)
        + ffn (fun q => hf (ix2 t q)) (fun q f => wg (ix3 1 q f)) (fun q f => wu (ix3 1 q f)) (fun f q => wd (ix3 1 f q)) d * gt (ix2 (expB e) t) := by
  unfold pass
  rw [show k0_pay31 (F := Ideal) = k0_pay28 from rfl, cntA_at i e he, cntB_at i e he, count_at, count_at, trips_t1 _ (total_le _), trips_t3 _ (total_le _)]
  have hz : ∀ (x : Fin 16) (s : Fin 1024), ¬ picked gt x s → gt (ix2 x s) = 0 := fun x s h => le_antisymm (not_lt.1 h) (h0 x s)
  rw [blocks_all (sel := picked gt (expB e)) (rank := earlier (picked gt (expB e))) (before_inj _) (total_le _) (fun t ht => before_lt_total _ ht)
      (rowB i gt) _ (fun t => slot_at _ _ _ _ (fun t => by rw [rowB_at i e he]) (fun t => by rw [rowB_at i e he, rank_at _ _ htri]) t)
      (fun t ht => by rw [rowB_at i e he]; exact hz _ _ ht),
    blocks_all (sel := picked gt (expA e)) (rank := earlier (picked gt (expA e))) (before_inj _) (total_le _) (fun t ht => before_lt_total _ ht)
      (rowA i gt) _ (fun t => slot_at _ _ _ _ (fun t => by rw [rowA_at i e he]) (fun t => by rw [rowA_at i e he, rank_at _ _ htri]) t)
      (fun t ht => by rw [rowA_at i e he]; exact hz _ _ ht),
    rowA_at i e he, rowB_at i e he]
  pointwise [wIn0, wIn1, wOut0, wOut1]

end Cert.KernelIdeal.Moe

end
-- ==== Proof.Reads.lean ====
module

public import proofs.«01_k».proof.Proof.Data
public import proofs.«01_k».proof.Proof.PassValue
public import Idealize.ShloMosaic.Lib.Pipeline.ValueKit

@[expose] public section
set_option maxRecDepth 16384
noncomputable section

/-!
  The kernel's input blocks, entry by entry, in terms of the program's arguments.
-/

namespace Cert.KernelIdeal.Moe
open Idealize.ShloMosaic Idealize.ShloMosaic.TcCoe
open Cert.KernelIdeal Cert.KernelIdeal.Gen

variable (m : (ℓ : Loc nD τ sig) → Buf (Elt Ideal) ℓ) (c : Dev nD)

/-! ## Where each window's block sits at a point -/

theorem idx0 : ∀ t : Fin grid0.N, win0_0.index t = ![t.val / 8, 0] := by decide +kernel
theorem idx1 : ∀ t : Fin grid0.N, win0_1.index t = ![0, t.val / 8] := by decide +kernel
theorem idx2 : ∀ t : Fin grid0.N, win0_2.index t = ![0, 0] := by decide +kernel
theorem idx3 : ∀ t : Fin grid0.N, win0_3.index t = ![t.val % 8, 0, 0] := by decide +kernel
theorem idx4 : ∀ t : Fin grid0.N, win0_4.index t = ![t.val % 8, 0, 0] := by decide +kernel
theorem idx5 : ∀ t : Fin grid0.N, win0_5.index t = ![t.val % 8, 0, 0] := by decide +kernel
theorem idx6 : ∀ t : Fin grid0.N, win0_6.index t = ![t.val / 8, 0] := by decide +kernel
theorem idx7 : ∀ t : Fin grid0.N, win0_7.index t = ![1, t.val / 32, 0, 0] := by decide +kernel
theorem idx8 : ∀ t : Fin grid0.N, win0_8.index t = ![0, 0] := by decide +kernel
theorem idx9 : ∀ t : Fin grid0.N, win0_9.index t = ![min (t.val / 8) 3, 0] := by decide +kernel
theorem idx10 : ∀ t : Fin grid0.N, win0_10.index t = ![t.val / 8 - 4, 0] := by decide +kernel

/-- Token `r` of block `b`. -/
def tok (b : Fin 36) (r : Fin 1024) : Fin 36864 := ⟨b.val * 1024 + r.val, by omega⟩

/-- The token block of a point -/
def blkOf (t : Fin cfg0.N) : Fin 36 := ⟨t.val / 8, by have : cfg0.N = 288 := N_0; have := t.isLt; omega⟩
/-- and its pair of experts. -/
def pairOf (t : Fin cfg0.N) : Fin 8 := ⟨t.val % 8, by omega⟩

theorem pair_coord (t : Fin cfg0.N) : (grid0.coords t 1).val = (pairOf t).val := by
  have e1 : (grid0.coords t 1).val = t.val / 1 % 8 := Pipeline.Grid.coords_val t 1 (by decide) rfl
  rw [e1, Nat.div_one]; rfl

/-! ## The blocks, read off the argument arrays -/

theorem blk0_at (t : Fin cfg0.N) (r k : Fin 1024) : blk0 m c t (ix2 r k) = m (c.tc.loc main_arg0) (ix2 (tok (blkOf t) r) k) := by
  unfold blk0 tok blkOf
  blk_ext [iblk, V, idx0 t]

theorem blk1_at (t : Fin cfg0.N) (e : Fin 16) (r : Fin 1024) : blk1 m c t (ix2 e r) = m (c.tc.loc main_arg1) (ix2 e (tok (blkOf t) r)) := by
  unfold blk1 tok blkOf
  blk_ext [iblk, V, idx1 t]

theorem blk2_at (t : Fin cfg0.N) (r s : Fin 1024) : blk2 m c t (ix2 r s) = V m c main_v4 (ix2 r s) := by
  unfold blk2
  blk_ext [iblk, idx2 t]

theorem blk3_at (t : Fin cfg0.N) (s : Fin 2) (k : Fin 1024) (f : Fin 512) (e : Fin 16) (he : e.val = t.val % 8 * 2 + s.val) : blk3 m c t (ix3 s k f) = m (c.tc.loc main_arg2) (ix3 e k f) := by
  unfold blk3
  blk_ext [iblk, V, idx3 t]

theorem blk4_at (t : Fin cfg0.N) (s : Fin 2) (k : Fin 1024) (f : Fin 512) (e : Fin 16) (he : e.val = t.val % 8 * 2 + s.val) : blk4 m c t (ix3 s k f) = m (c.tc.loc main_arg3) (ix3 e k f) := by
  unfold blk4
  blk_ext [iblk, V, idx4 t]

theorem blk5_at (t : Fin cfg0.N) (s : Fin 2) (k : Fin 1024) (f : Fin 512) (e : Fin 16) (he : e.val = t.val % 8 * 2 + s.val) : blk5 m c t (ix3 s f k) = m (c.tc.loc main_arg4) (ix3 e f k) := by
  unfold blk5
  blk_ext [iblk, V, idx5 t]

theorem blk6_at (t : Fin cfg0.N) (r k : Fin 1024) : blk6 m c t (ix2 r k) = m (c.tc.loc main_arg5) (ix2 (tok (blkOf t) r) k) := by
  unfold blk6 tok blkOf
  blk_ext [iblk, V, idx6 t]

/-- The final norm's weight as the kernel is handed it: one row. -/
theorem v5_at (d : Fin 1024) : V m c main_v5 (ix2 0 d) = m (c.tc.loc main_arg7) (ix1 d) := by
  show StableHlo.after (List.flatten [hostOps0, hostOps0_1, hostOps0_2]) (fun b => m (c, b)) main_v5 (ix2 0 d) = _
  simp only [hostOps0, hostOps0_1, hostOps0_2, List.flatten_cons, List.flatten_nil, List.append_nil, List.cons_append,
      List.nil_append]
  entry_read
  pointwise

theorem blk8_at (t : Fin cfg0.N) (d : Fin 1024) : blk8 m c t (ix2 0 d) = m (c.tc.loc main_arg7) (ix1 d) := by
  unfold blk8
  refine Eq.trans ?_ (v5_at m c d)
  blk_ext [iblk, idx8 t]

theorem blk7_at (t : Fin cfg0.N) (q : Fin 6) (d : Fin 1024) : blk7 m c t (ix4 0 0 q d) = m (c.tc.loc main_arg6) (ix4 1 ⟨t.val / 32, by have : cfg0.N = 288 := N_0; have := t.isLt; omega⟩ q d) := by
  unfold blk7
  blk_ext [iblk, V, idx7 t]

/-- The triangle of ones that the program builds before the kernel. -/
theorem tri_at (r s : Fin 1024) : V m c main_v4 (ix2 r s) = if r < s then (1 : EReal) else 0 := by
  show StableHlo.after (List.flatten [hostOps0, hostOps0_1, hostOps0_2]) (fun b => m (c, b)) main_v4 (ix2 r s) = _
  simp only [hostOps0, hostOps0_1, hostOps0_2, List.flatten_cons, List.flatten_nil, List.append_nil, List.cons_append,
      List.nil_append]
  entry_read
  show select (cmpi .sge (addi (iotaInDim S1024x1024 32 0) (broadcastInDim S1024x1024 ![] bcast_S_S1024x1024 (constantI S_ 32 0#32))) (iotaInDim S1024x1024 32 1))
    (broadcastInDim S1024x1024 ![] bcast_S_S1024x1024 (constant (F := Ideal) S_ .bf16 0x0000#16)) (broadcastInDim S1024x1024 ![] bcast_S_S1024x1024 (constant (F := Ideal) S_ .bf16 0x3F80#16)) (ix2 r s) = _
  pointwise
  have hr := r.isLt
  have hs := s.isLt
  have h : IntOp.cmpi CmpIPredicate.sge (IntOp.addi (BitVec.ofNat 32 r.val) 0#32) (BitVec.ofNat 32 s.val) = if s ≤ r then 1#1 else 0#1 := by
    show BitVec.ofBool ((BitVec.ofNat 32 s.val).sle (BitVec.ofNat 32 r.val + 0#32)) = _
    rw [BitVec.add_zero, BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    by_cases hc : s ≤ r
    · rw [if_pos hc, decide_eq_true (by exact_mod_cast hc)]; rfl
    · rw [if_neg hc, decide_eq_false (by exact_mod_cast hc)]; rfl
  rw [h]
  by_cases hc : r < s
  · rw [if_pos hc, if_neg (not_le.2 hc)]; rfl
  · rw [if_neg hc, if_pos (not_lt.1 hc)]; rfl
end Cert.KernelIdeal.Moe
end
-- ==== Proof.Spec.lean ====
module

public import proofs.«01_k».proof.Proof.BlockValue

@[expose] public section

set_option maxRecDepth 16384

noncomputable section

/-!
  The layer's tail as mathematics over the extended reals: the gated mixture of sixteen experts, the modulated residual and the
  final norm.
-/

namespace Cert.KernelIdeal.Moe

open Idealize.ShloMosaic
open Cert.KernelIdeal

section
variable (hf : Vec Ideal S36864x1024 .bf16) (gates : Vec Ideal S16x36864 .f32) (wg wu : Vec Ideal S16x1024x512 .f32) (wd : Vec Ideal S16x512x1024 .f32)
  (x1 : Vec Ideal S36864x1024 .f32) (mods : Vec Ideal S2x16x6x1024 .f32) (fw : Vec Ideal S1024 .f32)

/-- Expert `x`'s share of entry `d` of token `T`: its map of the token's row times its gate. -/
def term (T : Fin 36864) (x : Fin 16) (d : Fin 1024) : EReal :=
  ffn (fun k => hf (ix2 T k)) (fun k f => wg (ix3 x k f)) (fun k f => wu (ix3 x k f)) (fun f d => wd (ix3 x f d)) d * gates (ix2 x T)

/-- The mixture: the sixteen shares added up. -/
def moe (T : Fin 36864) (d : Fin 1024) : EReal := ∑ x : Fin 16, term hf gates wg wu wd T x d

/-- The residual: the token's row plus the mixture times row `s` of the modulation's last gate. -/
def resid (T : Fin 36864) (s : Fin 16) (d : Fin 1024) : EReal := x1 (ix2 T d) + mods (ix4 1 s 5 d) * moe hf gates wg wu wd T d

/-- The final norm of the residual. -/
def out (T : Fin 36864) (s : Fin 16) (d : Fin 1024) : EReal :=
  resid hf gates wg wu wd x1 mods T s d
    * Ideal.rsqrt (Ideal.div (∑ k : Fin 1024, resid hf gates wg wu wd x1 mods T s k * resid hf gates wg wu wd x1 mods T s k) (Ideal.ofBits .f32 0x44800000#32)
        + Ideal.ofBits .f32 0x358637BD#32)
    * fw (ix1 d)

theorem out_congr {T T' : Fin 36864} {s s' : Fin 16} {d d' : Fin 1024} (hT : T = T') (hs : s = s') (hd : d = d') :
    out hf gates wg wu wd x1 mods fw T s d = out hf gates wg wu wd x1 mods fw T' s' d' := by
  subst hT; subst hs; subst hd; rfl

end

/-- The prompt's tokens come first, -/
def promptTok (r : Fin 4096) : Fin 36864 := ⟨r.val, by omega⟩
/-- then the sample's, -/
def sampleTok (r : Fin 32768) : Fin 36864 := ⟨4096 + r.val, by omega⟩
/-- which fall into eight frames of 4096, with a row of the modulation each; row 0 is the prompt's. -/
def frameOf (r : Fin 32768) : Fin 16 := ⟨1 + r.val / 4096, by omega⟩

end Cert.KernelIdeal.Moe

end
-- ==== Proof.Value.lean ====
module

public import proofs.«01_k».proof.Proof.Reads
public import proofs.«01_k».proof.Proof.Spec

@[expose] public section

set_option maxRecDepth 16384

noncomputable section

/-!
  What the kernel leaves in its two results, entry by entry, when every gate is nonnegative.
-/

namespace Cert.KernelIdeal.Moe

open Idealize.ShloMosaic Idealize.ShloMosaic.TcCoe
open Cert.KernelIdeal Cert.KernelIdeal.Gen

variable (m : (ℓ : Loc nD τ sig) → Buf (Elt Ideal) ℓ) (c : Dev nD)

/-- The gates of the run. -/
abbrev gatesOf : Vec Ideal S16x36864 .f32 := m (c.tc.loc main_arg1)

/-- One expert's share of a token's row, as a function of a bare number; zero beyond the sixteenth. -/
def share (b : Fin 36) (r d : Fin 1024) (n : ℕ) : EReal :=
  if h : n < 16 then
    term (m (c.tc.loc main_arg0)) (m (c.tc.loc main_arg1)) (m (c.tc.loc main_arg2)) (m (c.tc.loc main_arg3)) (m (c.tc.loc main_arg4)) (tok b r) ⟨n, h⟩ d
  else 0

theorem share_sum (b : Fin 36) (r d : Fin 1024) : ∑ n ∈ Finset.range 16, share m c b r d n
    = moe (m (c.tc.loc main_arg0)) (m (c.tc.loc main_arg1)) (m (c.tc.loc main_arg2)) (m (c.tc.loc main_arg3)) (m (c.tc.loc main_arg4)) (tok b r) d := by
  rw [Finset.sum_range]
  unfold moe
  exact Finset.sum_congr rfl fun x _ => by unfold share; rw [dif_pos x.isLt]

/-- One point's pass adds its two experts' shares. -/
theorem pass_at (hg : ∀ e t, (0 : EReal) ≤ gatesOf m c (ix2 e t)) (t : Fin cfg0.N) (a : Vec Ideal S1024x1024 .f32) (r d : Fin 1024) :
    pass (grid0.coords t) (blk0 m c t) (blk1 m c t) (blk3 m c t) (blk4 m c t) (blk5 m c t) (k0_pay6 (blk1 m c t) (blk2 m c t)) (counts (blk1 m c t)) a (ix2 r d)
      = a (ix2 r d) + share m c (blkOf t) r d (2 * (t.val % 8)) + share m c (blkOf t) r d (2 * (t.val % 8) + 1) := by
  rw [pass_value (grid0.coords t) (pairOf t) (pair_coord t) _ _ _ (fun i j => by rw [blk2_at]; exact tri_at m c i j)
    (fun e s => by rw [blk1_at]; exact hg _ _)]
  unfold share term
  rw [dif_pos (by omega), dif_pos (by omega)]
  simp only [blk0_at, blk1_at, blk3_at m c t 0 _ _ (expA (pairOf t)) (Nat.mul_comm _ _), blk4_at m c t 0 _ _ (expA (pairOf t)) (Nat.mul_comm _ _),
    blk5_at m c t 0 _ _ (expA (pairOf t)) (Nat.mul_comm _ _),
    blk3_at m c t 1 _ _ (expB (pairOf t)) (congrArg (· + 1) (Nat.mul_comm _ _)), blk4_at m c t 1 _ _ (expB (pairOf t)) (congrArg (· + 1) (Nat.mul_comm _ _)),
    blk5_at m c t 1 _ _ (expB (pairOf t)) (congrArg (· + 1) (Nat.mul_comm _ _))]
  rfl

/-- A block's first point starts from zero. -/
theorem zeros_at (r d : Fin 1024) : k0_pay4 (F := Ideal) (ix2 r d) = 0 := by
  pointwise [k0_pay4]

/-- The scratch after every point. -/
theorem scr_at (hg : ∀ e t, (0 : EReal) ≤ gatesOf m c (ix2 e t)) (n : ℕ) (hn : n < cfg0.N) :
    (scrAt m c n hn).2.1 = k0_pay6 (blk1 m c ⟨n, hn⟩) (blk2 m c ⟨n, hn⟩) ∧ (scrAt m c n hn).2.2 = counts (blk1 m c ⟨n, hn⟩)
      ∧ ∀ r d, (scrAt m c n hn).1 (ix2 r d) = ∑ k ∈ Finset.range (2 * (n % 8) + 2), share m c (blkOf ⟨n, hn⟩) r d k := by
  induction n with
  | zero =>
    have h0 : scrAt m c 0 hn = firstScr m c ⟨0, hn⟩ := scrAt_first m c ⟨0, hn⟩ rfl
    rw [h0]
    refine ⟨rfl, rfl, fun r d => ?_⟩
    unfold firstScr
    dsimp only
    rw [pass_at m c hg, zeros_at, zero_add]
    simp [Finset.sum_range_succ]
  | succ n ih =>
    by_cases h8 : (n + 1) % 8 = 0
    · have h0 : scrAt m c (n + 1) hn = firstScr m c ⟨n + 1, hn⟩ := scrAt_first m c ⟨n + 1, hn⟩ h8
      rw [h0]
      refine ⟨rfl, rfl, fun r d => ?_⟩
      unfold firstScr
      dsimp only
      rw [pass_at m c hg, zeros_at, zero_add]
      simp [Finset.sum_range_succ, h8]
    · have h0 : scrAt m c (n + 1) hn = nextScr m c ⟨n + 1, hn⟩ (scrAt m c n (by omega)) := scrAt_next m c ⟨n + 1, hn⟩ h8
      obtain ⟨i1, i2, i3⟩ := ih (by omega)
      have hb : blkOf ⟨n, by omega⟩ = blkOf ⟨n + 1, hn⟩ := Fin.ext (by show n / 8 = (n + 1) / 8; omega)
      have b1 : blk1 m c ⟨n, by omega⟩ = blk1 m c ⟨n + 1, hn⟩ := by
        funext j
        obtain ⟨p, q, rfl⟩ : ∃ p q, j = ix2 p q := ⟨j 0, j 1, eq_ix2 j⟩
        rw [blk1_at, blk1_at, hb]
      have b2 : blk2 m c ⟨n, by omega⟩ = blk2 m c ⟨n + 1, hn⟩ := by
        funext j
        obtain ⟨p, q, rfl⟩ : ∃ p q, j = ix2 p q := ⟨j 0, j 1, eq_ix2 j⟩
        rw [blk2_at, blk2_at]
      rw [b1, b2] at i1
      rw [b1] at i2
      rw [h0]
      unfold nextScr
      dsimp only
      refine ⟨i1, i2, fun r d => ?_⟩
      rw [i1, i2, pass_at m c hg, i3, hb]
      rw [show 2 * ((n + 1) % 8) = 2 * (n % 8) + 2 by omega, Finset.sum_range_succ _ (2 * (n % 8) + 2 + 1), Finset.sum_range_succ _ (2 * (n % 8) + 2)]

/-- The finished rows of a block, entry by entry. -/
theorem rows_at (hg : ∀ e t, (0 : EReal) ≤ gatesOf m c (ix2 e t)) (t : Fin cfg0.N) (h7 : t.val % 8 = 7) (r d : Fin 1024) :
    rowsAt m c t (ix2 r d)
      = out (m (c.tc.loc main_arg0)) (m (c.tc.loc main_arg1)) (m (c.tc.loc main_arg2)) (m (c.tc.loc main_arg3)) (m (c.tc.loc main_arg4))
          (m (c.tc.loc main_arg5)) (m (c.tc.loc main_arg6)) (m (c.tc.loc main_arg7)) (tok (blkOf t) r)
          ⟨t.val / 32, by have : cfg0.N = 288 := N_0; have := t.isLt; omega⟩ d := by
  have hs : ∀ d, (scrAt m c t.val t.isLt).1 (ix2 r d)
      = moe (m (c.tc.loc main_arg0)) (m (c.tc.loc main_arg1)) (m (c.tc.loc main_arg2)) (m (c.tc.loc main_arg3)) (m (c.tc.loc main_arg4)) (tok (blkOf t) r) d := by
    intro d
    rw [(scr_at m c hg t.val t.isLt).2.2 r d, h7, ← share_sum]
  unfold rowsAt
  pointwise [k0_pay3, modRow]
  simp only [hs, blk6_at, blk7_at, blk8_at]
  rfl

/-- The first result: the prompt's rows. -/
def prompt : Vec Ideal S4096x1024 .f32 := fun j =>
  out (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (promptTok (j 0)) 0 (j 1)

/-- The second result: the sample's rows. -/
def sample : Vec Ideal S32768x1024 .f32 := fun j =>
  out (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) (sampleTok (j 0)) (frameOf (j 0)) (j 1)

/-- The first result's array after the run, -/
theorem prompt_arr (hg : ∀ e t, (0 : EReal) ≤ gatesOf m c (ix2 e t)) : (dats m 0 c).arrAt 9 (cfgs 0).N = prompt m c := by
  refine (dats m 0 c).arrAt_eq_of_covers 9 _ (by decide +kernel) fun t hf y => ?_
  blk_simp
  rw [after9]
  obtain ⟨p, q, rfl⟩ : ∃ (p q : Fin 1024), y = ix2 p q := ⟨y 0, y 1, eq_ix2 y⟩
  have ht : t.val < 288 := Nat.lt_of_lt_of_eq t.isLt N_0
  refine (rows_at m c hg (last9 t) (by show min _ _ % 8 = 7; omega) p q).trans ?_
  have e0 : (((win0_9.blk t).view.emb (ix2 p q)) 0).val = min (t.val / 8) 3 * 1024 + p.val := by
    blk_simp [idx9 t]
    try rfl
  have e1 : (((win0_9.blk t).view.emb (ix2 p q)) 1).val = q.val := by
    blk_simp [idx9 t]
    try rfl
  have key : ∀ j : S4096x1024.Idx, (j 0).val = min (t.val / 8) 3 * 1024 + p.val → (j 1).val = q.val →
      out (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (tok (blkOf (last9 t)) p)
        ⟨(last9 t).val / 32, by have : cfg0.N = 288 := N_0; have := (last9 t).isLt; omega⟩ q = prompt m c j := by
    intro j h0 h1
    unfold prompt
    refine out_congr _ _ _ _ _ _ _ _ (Fin.ext ?_) (Fin.ext ?_) (Fin.ext h1.symm)
    · show min (8 * (t.val / 8) + 7) 31 / 8 * 1024 + p.val = (j 0).val
      omega
    · show min (8 * (t.val / 8) + 7) 31 / 32 = 0
      omega
  exact key _ e0 e1

/-- and the second's. -/
theorem sample_arr (hg : ∀ e t, (0 : EReal) ≤ gatesOf m c (ix2 e t)) : (dats m 0 c).arrAt 10 (cfgs 0).N = sample m c := by
  refine (dats m 0 c).arrAt_eq_of_covers 10 _ (by decide +kernel) fun t hf y => ?_
  blk_simp
  rw [after10]
  obtain ⟨p, q, rfl⟩ : ∃ (p q : Fin 1024), y = ix2 p q := ⟨y 0, y 1, eq_ix2 y⟩
  have ht : t.val < 288 := Nat.lt_of_lt_of_eq t.isLt N_0
  have h7 : t.val % 8 = 7 ∧ 32 ≤ t.val := by
    by_contra hc
    rw [noFlush10 t hc] at hf
    exact absurd hf (by decide)
  refine (rows_at m c hg (last10 t) (by show (_ + 7) % 8 = 7; omega) p q).trans ?_
  have e0 : (((win0_10.blk t).view.emb (ix2 p q)) 0).val = (t.val / 8 - 4) * 1024 + p.val := by
    blk_simp [idx10 t]
    try rfl
  have e1 : (((win0_10.blk t).view.emb (ix2 p q)) 1).val = q.val := by
    blk_simp [idx10 t]
    try rfl
  have key : ∀ j : S32768x1024.Idx, (j 0).val = (t.val / 8 - 4) * 1024 + p.val → (j 1).val = q.val →
      out (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (tok (blkOf (last10 t)) p)
        ⟨(last10 t).val / 32, by have : cfg0.N = 288 := N_0; have := (last10 t).isLt; omega⟩ q = sample m c j := by
    intro j h0 h1
    unfold sample
    refine out_congr _ _ _ _ _ _ _ _ (Fin.ext ?_) (Fin.ext ?_) (Fin.ext h1.symm)
    · show (8 * (t.val / 8) + 7) / 8 * 1024 + p.val = 4096 + (j 0).val
      omega
    · show (8 * (t.val / 8) + 7) / 32 = 1 + (j 0).val / 4096
      omega
  exact key _ e0 e1

end Cert.KernelIdeal.Moe

end
-- ==== Proof.RefValue.lean ====
module

public import proofs.«01_k».proof.Proof.Gen.ReferenceIdeal.Run
public import proofs.«01_k».proof.Proof.Spec
public import Idealize.ShloMosaic.Lib.Tactic.CleanTypes

@[expose] public section

set_option maxRecDepth 16384

noncomputable section

/-!
  The reference's two results, entry by entry.
-/

namespace Cert.ReferenceIdeal.Moe

open Idealize.ShloMosaic Idealize.ShloMosaic.TcCoe
open Cert.ReferenceIdeal Cert.ReferenceIdeal.Gen
open Cert.KernelIdeal.Moe (ffn term moe resid out promptTok sampleTok frameOf)

variable (m : (ℓ : Loc nD τ sig) → Buf (Elt Ideal) ℓ) (c : Dev nD)

/-- One expert's map with the weight first in every product and the logistic written out. -/
theorem ffn_swapped (x : Fin 1024 → EReal) (wg wu : Fin 1024 → Fin 512 → EReal) (wd : Fin 512 → Fin 1024 → EReal) (d : Fin 1024) :
    ffn x wg wu wd d = ∑ f : Fin 512, ((∑ k, wg k f * x k) * Ideal.div 1 (1 + Ideal.exp (-∑ k, wg k f * x k)) * ∑ k, wu k f * x k) * wd f d := by
  have h : ∀ (w : Fin 1024 → Fin 512 → EReal) (f : Fin 512), ∑ k, x k * w k f = ∑ k, w k f * x k :=
    fun w f => Finset.sum_congr rfl fun k _ => mul_comm _ _
  unfold ffn
  simp only [h wg, h wu, Ideal.logistic]

/-- The prompt's rows. -/
theorem prompt_at (r : Fin 4096) (d : Fin 1024) : (Value.res_main_v38 m c : Vec Ideal S4096x1024 .f32) (ix2 r d)
    = out (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (promptTok r) 0 d := by
  unfold Value.res_main_v38
  clean_types
  pointwise
  unfold out resid moe term
  simp only [ffn_swapped]
  rfl

/-- The sample's rows. -/
theorem sample_at (r : Fin 32768) (d : Fin 1024) : (Value.res_main_v62 m c : Vec Ideal S32768x1024 .f32) (ix2 r d)
    = out (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (sampleTok r) (frameOf r) d := by
  unfold Value.res_main_v62
  clean_types
  pointwise
  unfold out resid moe term
  simp only [ffn_swapped]
  rfl

end Cert.ReferenceIdeal.Moe

end
-- ==== Proof.Algebraic.lean ====
module

public import proofs.«01_k».proof.Proof.Frames
public import proofs.«01_k».proof.Proof.Value
public import proofs.«01_k».proof.Proof.RefValue
public import Idealize.ShloMosaic.Lib.ReduceAll
public import Idealize.ShloMosaic.Lib.Claim

@[expose] public section

/-!
  The value claim: where no routing gate is negative, the kernel's two results and the reference's are the same arrays.
  Both are `out` of `Spec.lean` at every index: the kernel by `prompt_arr` and `sample_arr`, the reference by
  `prompt_at` and `sample_at`.
-/

noncomputable section

namespace Cert.Proof

open Idealize.ShloMosaic Idealize.ShloMosaic.TcCoe Idealize.SL.Sem Idealize.ShloMosaic.Rounds
open Cert.KernelIdeal.Moe (gatesOf prompt sample out)

attribute [local instance] Cert.Kernel.Gen.facts Cert.KernelIdeal.Gen.facts Cert.ReferenceIdeal.Gen.facts

/-- The shape relations of the precondition. -/
theorem pre_facts : Cert.Pre_gates_nonneg.Facts where
  bcast_S_S16x36864 := by decide
  reducesTo_S16x36864_S_d0_1 := by decide
  h_S_ := by decide

attribute [local instance] pre_facts

/-- The precondition says of each gate that it is not negative. -/
theorem gates_of_pre (m : (ℓ : Loc Cert.KernelIdeal.nD Cert.KernelIdeal.τ Cert.KernelIdeal.sig) → Buf (Elt Ideal) ℓ)
    (h : Cert.Pre_KernelIdeal_gates_nonneg m) (c : Dev Cert.KernelIdeal.nD) (e : Fin 16) (t : Fin 36864) :
    (0 : EReal) ≤ gatesOf m c (ix2 e t) := by
  have h0 := congrFun (h c) ix0
  unfold Cert.Pre_gates_nonneg.fn at h0
  have h1 := Host.reduce_andi_all _ _ _ _ _ h0 (ix2 e t)
  have h2 : BitVec.ofBool (decide (Ideal.ofBits .f32 0x00000000#32 ≤ gatesOf m c (ix2 e t))) = 1#1 := h1
  have hz : Ideal.ofBits .f32 0x00000000#32 = (0 : EReal) := by pointwise
  rw [hz] at h2
  by_contra hn
  rw [decide_eq_false hn] at h2
  exact absurd h2 (by decide)

/-- The idealized kernel's frame, under the precondition. -/
theorem frame_ideal_pre : Cert.quiescent_KernelIdeal_pre_gates_nonneg := fun m ρ _ => Cert.KernelIdeal.Moe.frame_run (F := Ideal) m ρ

/-- The reference's frame, under the precondition. -/
theorem frame_ref_pre : Cert.quiescent_ReferenceIdeal_pre_gates_nonneg := fun m ρ _ => frame_ref m ρ trivial

/-- The kernel's two results are the reference's. -/
theorem algebraic : Cert.algebraic_KernelIdeal_ReferenceIdeal_pre_gates_nonneg := by
  intro m g m' g' hpre hargs
  have hg := gates_of_pre m hpre
  refine ⟨fun c => prompt m c, fun c => sample m c, ?_, ?_⟩
  · refine (θ_run _ _ _).mono (fun r h c => ?_) (θ_run_and (Cert.KernelIdeal.Moe.run_main m g) (Cert.KernelIdeal.Moe.frame_run m g))
    exact ⟨(h.1.out_eq c 9).trans (Cert.KernelIdeal.Moe.prompt_arr m c (hg c)),
      (h.1.out_eq c 10).trans (Cert.KernelIdeal.Moe.sample_arr m c (hg c)), h.2.1 c⟩
  · refine (θ_run _ _ _).mono (fun r h c => ?_) (Cert.ReferenceIdeal.Value.run (F := Ideal) m' g')
    obtain ⟨a0, a1, a2, a3, a4, a5, a6, a7⟩ := hargs c
    refine ⟨(h c).1.trans ?_, (h c).2.1.trans ?_, (h c).2.2⟩
    · funext j
      obtain ⟨p, q, rfl⟩ : ∃ p q, j = ix2 p q := ⟨j 0, j 1, eq_ix2 j⟩
      refine (Cert.ReferenceIdeal.Moe.prompt_at m' c p q).trans ?_
      rw [a0, a1, a2, a3, a4, a5, a6, a7]
      rfl
    · funext j
      obtain ⟨p, q, rfl⟩ : ∃ p q, j = ix2 p q := ⟨j 0, j 1, eq_ix2 j⟩
      refine (Cert.ReferenceIdeal.Moe.sample_at m' c p q).trans ?_
      rw [a0, a1, a2, a3, a4, a5, a6, a7]
      rfl

end Cert.Proof

end
-- ==== Proof.ZeroBlocks.lean ====
module

public import proofs.«01_k».proof.Proof.RunFirst
public import proofs.«01_k».proof.Proof.Gen.Kernel2Ideal.Loops
public import proofs.«01_k».proof.Proof.Gen.Kernel2Ideal.Frame
public import Idealize.ShloMosaic.Lib.Pipeline.Value

@[expose] public section

set_option maxRecDepth 16384

noncomputable section

/-!
  Layer 0's call of the mixture of experts: what its two expert loops leave in the accumulator. Its program is the last layer's
  without the final norm and with one result; the steps of the loops are those of `Blocks.lean`, whose definitions are used here.
-/

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen
open Cert.KernelIdeal.Moe (blockStep blocks wIn0 wIn1 wOut0 wOut1 ok_step_one off2 isFirst rowA rowB cntA cntB modRow pass counts)

variable {F : FTy → Type} [FloatOps F]

local notation "𝕄" => MT nD τ sig Unit (Elt F) ℕ (UR sig nD τ) ℕ

/-- The first expert's loops have a meaning whatever the count. -/
theorem chk1_all (v : BitVec 32) : k0_chk1 v := ⟨ok_step_one _ _, ok_step_one _ _⟩

/-- The second expert's loops have a meaning whatever the count. -/
theorem chk2_all (v : BitVec 32) : k0_chk2 v := ⟨ok_step_one _ _, ok_step_one _ _⟩

/-- The first expert's loop makes ceil(n / 160) trips for a count n ≤ 1024. -/
theorem trips_t1 (n : ℕ) (h : n ≤ 1024) : (k0_t1_loop (BitVec.ofNat 32 n)).trips = (n + 159) / 160 := by
  have key : ∀ n : Fin 1025, (k0_t1_loop (BitVec.ofNat 32 n.val)).trips = (n.val + 159) / 160 := by decide +kernel
  exact key ⟨n, by omega⟩

/-- The second expert's loop makes ceil(n / 160) trips for a count n ≤ 1024. -/
theorem trips_t3 (n : ℕ) (h : n ≤ 1024) : (k0_t3_loop (BitVec.ofNat 32 n)).trips = (n + 159) / 160 := by
  have key : ∀ n : Fin 1025, (k0_t3_loop (BitVec.ofNat 32 n.val)).trips = (n.val + 159) / 160 := by decide +kernel
  exact key ⟨n, by omega⟩

/-- One store over a whole rank-2 buffer leaves its payload. -/
theorem read_whole_piece {d : Fin 2 → ℕ} {e : EltTy} {sp : Space} (v : View sig .tc sp ⟨2, d⟩ e) (f : v.ty.Contents (Elt F))
    (inb : ∀ a, (![0, 0] : Fin 2 → ℕ) a + d a ≤ d a) (w : (⟨2, d⟩ : Shape).Idx → Elt F e) :
    v.read (Elt F) (v.writes (Elt F) f [⟨Rect.unit (s := ⟨2, d⟩) ![0, 0] d inb, w⟩]) = w := by
  rw [View.read_writes_eq_canon v f [⟨Rect.unit (s := ⟨2, d⟩) ![0, 0] d inb, w⟩]
    (fun y => ⟨_, List.mem_singleton_self _, View.mem_set_unit_zero (S := ⟨2, d⟩) off2 inb y⟩)]
  exact View.canon_unit_zero (S := ⟨2, d⟩) off2 inb w

/-- What one trip of the first expert's loop stores into the accumulator: one whole piece, the block's step. -/
theorem piece_t1 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (arg1 : BitVec 32) (v4 : FVec F S160x1024 .f32) (g slot : Vec F S1x1024 .f32) (v : Elt F .i32) (hw : k0_chk1 v) (v36 : BitVec 32)
    (X2 : BufTy.Contents (Elt F) arg2.view.ty) (X5 : BufTy.Contents (Elt F) arg5.view.ty)
    (X6 : BufTy.Contents (Elt F) arg6.view.ty) (X7 : BufTy.Contents (Elt F) arg7.view.ty)
    (k : Fin (k0_t1_loop v).trips) (f : BufTy.Contents (Elt F) arg12.view.ty) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 g slot v hw 0#32 v36 X2 X5 X6 X7 k f
      = [⟨Rect.unit (s := S1024x1024) ![0, 0] S1024x1024.size inb_S1024x1024_S1024x1024_0_0,
          k0_pay29 (blockStep v4 g slot (Scf.iv 0#32 1#32 k)
            (View.ld (arg2.view.read (Elt F) X2) (Rect.unit (s := S1024x1024) ![0, 0] S1024x1024.size inb_S1024x1024_S1024x1024_0_0))
            (View.ld (arg5.view.read (Elt F) X5) (Rect.unit (s := S2x1024x512) ![0, 0, 0] S1x1024x512.size inb_S2x1024x512_S1x1024x512_0_0_0))
            (View.ld (arg6.view.read (Elt F) X6) (Rect.unit (s := S2x1024x512) ![0, 0, 0] S1x1024x512.size inb_S2x1024x512_S1x1024x512_0_0_0))
            (View.ld (arg7.view.read (Elt F) X7) (Rect.unit (s := S2x512x1024) ![0, 0, 0] S1x512x1024.size inb_S2x512x1024_S1x512x1024_0_0_0))
            (View.ld (arg12.view.read (Elt F) f) (Rect.unit (s := S1024x1024) ![0, 0] S1024x1024.size inb_S1024x1024_S1024x1024_0_0)))⟩] := by
  unfold tripL_k0_t1 trip_k0_t1
  rfl

/-- What the first expert's loop leaves in the accumulator after `k` trips. -/
theorem left_t1 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (arg1 : BitVec 32) (v4 : FVec F S160x1024 .f32) (g slot : Vec F S1x1024 .f32) (v : Elt F .i32) (hw : k0_chk1 v) (v36 : BitVec 32)
    (x2 : Vec F S1024x1024 .bf16) (x5 x6 : Vec F S2x1024x512 .bf16) (x7 : Vec F S2x512x1024 .bf16)
    (a : Vec F S1024x1024 .f32) (k : ℕ) (hk : k ≤ (k0_t1_loop v).trips) :
    arg12.view.writes (Elt F) (harg12.unread a)
        (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg1 v4 g slot v hw 0#32 v36 (harg2.unread x2) (harg5.unread x5) (harg6.unread x6) (harg7.unread x7) (harg12.unread a) k)
      = harg12.unread (blocks v4 g slot x2 (wIn0 x5) (wIn0 x6) (wOut0 x7) k a) := by
  induction k with
  | zero => rfl
  | succ k ih =>
    have hk' : k < (k0_t1_loop v).trips := hk
    rw [show k + 1 = (⟨k, hk'⟩ : Fin (k0_t1_loop v).trips).val + 1 from rfl, pb_k0_t1_succ, View.writes_append, piece_t1, ih (Nat.le_of_succ_le hk)]
    refine harg12.eq_unread ?_
    rw [read_whole_piece, harg2.read_unread, harg5.read_unread, harg6.read_unread, harg7.read_unread,
      harg12.read_unread, View.ld_unit_zero off2, View.ld_unit_zero off2]
    unfold k0_pay29
    dsimp only
    rw [shapeCast_self]
    rfl

/-- What one trip of the second expert's loop stores into the accumulator: one whole piece, the block's step. -/
theorem piece_t3 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (v4 : FVec F S160x1024 .f32) (g slot : Vec F S1x1024 .f32) (v : Elt F .i32) (hw : k0_chk2 v)
    (X2 : BufTy.Contents (Elt F) arg2.view.ty) (X5 : BufTy.Contents (Elt F) arg5.view.ty)
    (X6 : BufTy.Contents (Elt F) arg6.view.ty) (X7 : BufTy.Contents (Elt F) arg7.view.ty)
    (k : Fin (k0_t3_loop v).trips) (f : BufTy.Contents (Elt F) arg12.view.ty) :
    tripL_k0_t3 𝒱 c bd i arg2 harg2 arg3 harg3 arg4 harg4 arg5 harg5 arg6 harg6 arg7 harg7 arg8 harg8 arg9 harg9 arg10 harg10 arg11 harg11 arg12 harg12 arg13 harg13 arg14 harg14 v4 g slot v hw 0#32 X2 X5 X6 X7 k f
      = [⟨Rect.unit (s := S1024x1024) ![0, 0] S1024x1024.size inb_S1024x1024_S1024x1024_0_0,
          k0_pay1 (blockStep v4 g slot (Scf.iv 0#32 1#32 k)
            (View.ld (arg2.view.read (Elt F) X2) (Rect.unit (s := S1024x1024) ![0, 0] S1024x1024.size inb_S1024x1024_S1024x1024_0_0))
            (View.ld (arg5.view.read (Elt F) X5) (Rect.unit (s := S2x1024x512) ![1, 0, 0] S1x1024x512.size inb_S2x1024x512_S1x1024x512_1_0_0))
            (View.ld (arg6.view.read (Elt F) X6) (Rect.unit (s := S2x1024x512) ![1, 0, 0] S1x1024x512.size inb_S2x1024x512_S1x1024x512_1_0_0))
            (View.ld (arg7.view.read (Elt F) X7) (Rect.unit (s := S2x512x1024) ![1, 0, 0] S1x512x1024.size inb_S2x512x1024_S1x512x1024_1_0_0))
            (View.ld (arg12.view.read (Elt F) f) (Rect.unit (s := S1024x1024) ![0, 0] S1024x1024.size inb_S1024x1024_S1024x1024_0_0)))⟩] := by
  unfold tripL_k0_t3 trip_k0_t3
  rfl

/-- What the second expert's loop leaves in the accumulator after `k` trips. -/
theorem left_t3 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (v4 : FVec F S160x1024 .f32) (g slot : Vec F S1x1024 .f32) (v : Elt F .i32) (hw : k0_chk2 v)
    (x2 : Vec F S1024x1024 .bf16) (x5 x6 : Vec F S2x1024x512 .bf16) (x7 : Vec F S2x512x1024 .bf16)
    (a : Vec F S1024x1024 .f32) (k : ℕ) (hk : k ≤ (k0_t3_loop v).trips) :
    arg12.view.writes (Elt F) (harg12.unread a)
        (pb_k0_t3 𝒱 c bd i arg2 harg2 arg3 harg3 arg4 harg4 arg5 harg5 arg6 harg6 arg7 harg7 arg8 harg8 arg9 harg9 arg10 harg10 arg11 harg11 arg12 harg12 arg13 harg13 arg14 harg14 v4 g slot v hw 0#32 (harg2.unread x2) (harg5.unread x5) (harg6.unread x6) (harg7.unread x7) (harg12.unread a) k)
      = harg12.unread (blocks v4 g slot x2 (wIn1 x5) (wIn1 x6) (wOut1 x7) k a) := by
  induction k with
  | zero => rfl
  | succ k ih =>
    have hk' : k < (k0_t3_loop v).trips := hk
    rw [show k + 1 = (⟨k, hk'⟩ : Fin (k0_t3_loop v).trips).val + 1 from rfl, pb_k0_t3_succ, View.writes_append, piece_t3, ih (Nat.le_of_succ_le hk)]
    refine harg12.eq_unread ?_
    rw [read_whole_piece, harg2.read_unread, harg5.read_unread, harg6.read_unread, harg7.read_unread,
      harg12.read_unread, View.ld_unit_zero off2, View.ld_unit_zero off2]
    unfold k0_pay1
    dsimp only
    rw [shapeCast_self]
    rfl

/-- A load of a whole rank-2 buffer is its contents. -/
theorem ld_whole {d : Fin 2 → ℕ} {e : EltTy} (X : (⟨2, d⟩ : Shape).Idx → Elt F e)
    (inb : ∀ a, (![0, 0] : Fin 2 → ℕ) a + d a ≤ d a) :
    View.ld (Val := Elt F) X (Rect.unit (s := ⟨2, d⟩) ![0, 0] d inb) = X :=
  View.ld_unit_zero (S := ⟨2, d⟩) off2 inb X

/-- The loop behind it makes no trip, so it leaves no piece. -/
theorem pbNil_t2 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (arg1 : BitVec 32) (v4 : FVec F S160x1024 .f32) (g slot : Vec F S1x1024 .f32) (v : Elt F .i32) (hw : k0_chk1 v) (b v36 v40 : BitVec 32)
    (X2 : BufTy.Contents (Elt F) arg2.view.ty) (X5 : BufTy.Contents (Elt F) arg5.view.ty)
    (X6 : BufTy.Contents (Elt F) arg6.view.ty) (X7 : BufTy.Contents (Elt F) arg7.view.ty)
    (G : BufTy.Contents (Elt F) arg12.view.ty) :
    pb_k0_t2 𝒱 c bd i arg2 harg2 arg3 harg3 arg4 harg4 arg5 harg5 arg6 harg6 arg7 harg7 arg8 harg8 arg9 harg9 arg10 harg10 arg11 harg11 arg12 harg12 arg13 harg13 arg14 harg14 arg1 v4 g slot v hw b v36 v40 X2 X5 X6 X7 G
      (Scf.trips (k0_t2_loop v).lb (k0_t2_loop v).ub (k0_t2_loop v).st) = [] := by
  rw [show Scf.trips (k0_t2_loop v).lb (k0_t2_loop v).ub (k0_t2_loop v).st = 0 from Scf.rem_trips _ _]
  rfl

/-- The loop behind it makes no trip, so it leaves no piece. -/
theorem pbNil_t4 (𝒱 : Variants) (c : Dev nD) (bd : Option 𝒱.V) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (v4 : FVec F S160x1024 .f32) (g slot : Vec F S1x1024 .f32) (v : Elt F .i32) (hw : k0_chk2 v) (v76 : BitVec 32)
    (X2 : BufTy.Contents (Elt F) arg2.view.ty) (X5 : BufTy.Contents (Elt F) arg5.view.ty)
    (X6 : BufTy.Contents (Elt F) arg6.view.ty) (X7 : BufTy.Contents (Elt F) arg7.view.ty)
    (G : BufTy.Contents (Elt F) arg12.view.ty) :
    pb_k0_t4 𝒱 c bd i arg2 harg2 arg3 harg3 arg4 harg4 arg5 harg5 arg6 harg6 arg7 harg7 arg8 harg8 arg9 harg9 arg10 harg10 arg11 harg11 arg12 harg12 arg13 harg13 arg14 harg14 v4 g slot v hw v76 X2 X5 X6 X7 G
      (Scf.trips (k0_t4_loop v).lb (k0_t4_loop v).ub (k0_t4_loop v).st) = [] := by
  rw [show Scf.trips (k0_t4_loop v).lb (k0_t4_loop v).ub (k0_t4_loop v).st = 0 from Scf.rem_trips _ _]
  rfl

/-- One store over a whole rank-2 buffer, as contents. -/
theorem writes_whole {d : Fin 2 → ℕ} {e : EltTy} {sp : Space} {M : Memref sig .tc sp ⟨2, d⟩ e} (hM : M.IsWhole) (f : M.view.ty.Contents (Elt F))
    (inb : ∀ a, (![0, 0] : Fin 2 → ℕ) a + d a ≤ d a) (w : (⟨2, d⟩ : Shape).Idx → Elt F e) :
    M.view.writes (Elt F) f [⟨Rect.unit (s := ⟨2, d⟩) ![0, 0] d inb, w⟩] = hM.unread w :=
  hM.eq_unread (read_whole_piece _ f inb w)

set_option maxHeartbeats 1000000 in
/-- The sixteen counts, stored one cell at a time, fill the count buffer. -/
theorem writes_counts {M : Memref sig .tc .smem S16 .i32} (hM : M.IsWhole) (f : M.view.ty.Contents (Elt F)) (x : Vec F S16x1024 .f32) :
    M.view.writes (Elt F) f
      [⟨Rect.unit (s := S16) ![15] ![1] inb_S16_S1_15, fun _ => (Scalar.fptosi 32 (k0_pay26 (k0_pay5 x)) : BitVec 32)⟩,
        ⟨Rect.unit (s := S16) ![14] ![1] inb_S16_S1_14, fun _ => (Scalar.fptosi 32 (k0_pay21 (k0_pay5 x)) : BitVec 32)⟩,
        ⟨Rect.unit (s := S16) ![13] ![1] inb_S16_S1_13, fun _ => (Scalar.fptosi 32 (k0_pay20 (k0_pay5 x)) : BitVec 32)⟩,
        ⟨Rect.unit (s := S16) ![12] ![1] inb_S16_S1_12, fun _ => (Scalar.fptosi 32 (k0_pay19 (k0_pay5 x)) : BitVec 32)⟩,
        ⟨Rect.unit (s := S16) ![11] ![1] inb_S16_S1_11, fun _ => (Scalar.fptosi 32 (k0_pay18 (k0_pay5 x)) : BitVec 32)⟩,
        ⟨Rect.unit (s := S16) ![10] ![1] inb_S16_S1_10, fun _ => (Scalar.fptosi 32 (k0_pay17 (k0_pay5 x)) : BitVec 32)⟩,
        ⟨Rect.unit (s := S16) ![9] ![1] inb_S16_S1_9, fun _ => (Scalar.fptosi 32 (k0_pay16 (k0_pay5 x)) : BitVec 32)⟩,
        ⟨Rect.unit (s := S16) ![8] ![1] inb_S16_S1_8, fun _ => (Scalar.fptosi 32 (k0_pay15 (k0_pay5 x)) : BitVec 32)⟩,
        ⟨Rect.unit (s := S16) ![7] ![1] inb_S16_S1_7, fun _ => (Scalar.fptosi 32 (k0_pay14 (k0_pay5 x)) : BitVec 32)⟩,
        ⟨Rect.unit (s := S16) ![6] ![1] inb_S16_S1_6, fun _ => (Scalar.fptosi 32 (k0_pay13 (k0_pay5 x)) : BitVec 32)⟩,
        ⟨Rect.unit (s := S16) ![5] ![1] inb_S16_S1_5, fun _ => (Scalar.fptosi 32 (k0_pay12 (k0_pay5 x)) : BitVec 32)⟩,
        ⟨Rect.unit (s := S16) ![4] ![1] inb_S16_S1_4, fun _ => (Scalar.fptosi 32 (k0_pay11 (k0_pay5 x)) : BitVec 32)⟩,
        ⟨Rect.unit (s := S16) ![3] ![1] inb_S16_S1_3, fun _ => (Scalar.fptosi 32 (k0_pay10 (k0_pay5 x)) : BitVec 32)⟩,
        ⟨Rect.unit (s := S16) ![2] ![1] inb_S16_S1_2, fun _ => (Scalar.fptosi 32 (k0_pay9 x) : BitVec 32)⟩,
        ⟨Rect.unit (s := S16) ![1] ![1] inb_S16_S1_1, fun _ => (Scalar.fptosi 32 (k0_pay8 x) : BitVec 32)⟩,
        ⟨Rect.unit (s := S16) ![0] ![1] inb_S16_S1_0, fun _ => (Scalar.fptosi 32 (k0_pay7 x) : BitVec 32)⟩] = hM.unread (counts x) := by
  refine hM.eq_unread (funext fun y => ?_)
  simp only [counts]
  rw [View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell, View.read_writes_cons_cell]
  generalize y 0 = k
  simp only [Matrix.cons_val_zero]
  revert k
  show ∀ k : Fin 16, _
  intro k
  fin_cases k <;> rfl

end Cert.Kernel2Ideal.Moe

end
-- ==== Proof.ZeroFirst.lean ====
module

public import proofs.«01_k».proof.Proof.ZeroBlocks

@[expose] public section

set_option maxRecDepth 16384

noncomputable section

/-!
  Layer 0's call: the body at the first point of a token block.
-/

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen
open Cert.KernelIdeal.Moe (blockStep blocks wIn0 wIn1 wOut0 wOut1 ok_step_one off2 isFirst rowA rowB cntA cntB modRow pass counts)

variable {F : FTy → Type} [FloatOps F]

local notation "𝕄" => MT nD τ sig Unit (Elt F) ℕ (UR sig nD τ) ℕ

set_option maxHeartbeats 4000000 in
/-- The first point of a token block: the accumulator, the ranks and the counts set up, then two experts. -/
theorem run_first (c : Dev nD) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (hc0 : isFirst i) (hc1 : ¬ k0_cond2 i = 1#1)
    (x0 : Vec F S1024x1024 .bf16) (x1 : Vec F S16x1024 .f32) (x2 : Vec F S1024x1024 .bf16) (x3 x4 : Vec F S2x1024x512 .bf16)
    (x5 : Vec F S2x512x1024 .bf16) (x6 : Vec F S1024x1024 .f32) (x7 : Vec F S1x1x6x1024 .f32) (x8 : Vec F S1x1024 .f32)
    (o9 a : Vec F S1024x1024 .f32) (r : Vec F S16x1024 .f32) (n : Vec F S16 .i32) (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare a
      ∗ owns (c : Thread nD τ) arg13 fullShare r ∗ owns (c : Thread nD τ) arg14 fullShare n
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare (pass i x0 x1 x3 x4 x5 (k0_pay6 x1 x2) (counts x1) k0_pay4)
      ∗ owns (c : Thread nD τ) arg13 fullShare (k0_pay6 x1 x2) ∗ owns (c : Thread nD τ) arg14 fullShare (counts x1)) -∗ K ⟨⟩))
    ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14) K := by
  simp only [cc0_moe_eq_skeleton]; unfold cc0_moe_skel
  simp only [k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf11
  obtain rfl := harg13.eq_unread hf12
  obtain rfl := harg14.eq_unread hf13
  sl_exec (disch := first | sl_exact hc0 | sl_exact hc1)
  generalize hv : run_first.sl.r_17 c i arg3 harg3 arg14 x1 = cA
  generalize hr : run_first.sl.v12 c i arg3 harg3 arg4 harg4 arg13 x1 x2 = rA
  replace hv : cA = cntA i (counts x1) := by
    rw [← hv]
    sl_unfold_run_names
    simp only [View.readAt_eq_ld, harg3.read_unread, ld_whole]
    rw [writes_counts harg14, harg14.read_unread]
    rfl
  replace hr : rA = rowA i (k0_pay6 x1 x2) := by
    rw [← hr]
    sl_unfold_run_names
    simp only [View.readAt_eq_ld, harg3.read_unread, harg4.read_unread, ld_whole]
    rw [writes_whole harg13, harg13.read_unread]
    rfl
  sl_unfold_run_names
  simp only [View.readAt_eq_ld, harg3.read_unread, harg4.read_unread, ld_whole]
  rw [writes_whole harg12, writes_whole harg13, writes_counts harg14]
  skip
  sl_exec (disch := first | sl_exact hc0 | sl_exact hc1 | with_reducible exact chk1_all _ | with_reducible exact chk2_all _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H11]
  · iexists _; isplitr; swap; · iexact H11
    ipureintro
    rw [pbNil_t2, pbNil_t4]
    simp only [List.nil_append, View.writes_append]
    rw [left_t1 (hk := le_rfl), left_t3 (hk := le_rfl)]
    rw [harg12.read_unread]
    sl_unfold_run_names
    simp only [View.readAt_eq_ld, harg3.read_unread, harg13.read_unread, harg14.read_unread]
    subst hv hr
    rfl
  isplitl [H12]
  · iexists _; isplitr; · ipureintro; exact harg13.read_unread _
    iexact H12
  iexists _; isplitr; · ipureintro; exact harg14.read_unread _
  iexact H13

end Cert.Kernel2Ideal.Moe

end
-- ==== Proof.ZeroMid.lean ====
module

public import proofs.«01_k».proof.Proof.ZeroBlocks

@[expose] public section

set_option maxRecDepth 16384

noncomputable section

/-!
  Layer 0's call: the body at a point inside a token block.
-/

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen
open Cert.KernelIdeal.Moe (blockStep blocks wIn0 wIn1 wOut0 wOut1 ok_step_one off2 isFirst rowA rowB cntA cntB modRow pass counts)

variable {F : FTy → Type} [FloatOps F]

local notation "𝕄" => MT nD τ sig Unit (Elt F) ℕ (UR sig nD τ) ℕ

set_option maxHeartbeats 4000000 in
/-- A point that is neither the first nor the last of its token block: two experts more. -/
theorem run_mid (c : Dev nD) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (hc0 : ¬ isFirst i) (hc1 : ¬ k0_cond2 i = 1#1)
    (x0 : Vec F S1024x1024 .bf16) (x1 : Vec F S16x1024 .f32) (x2 : Vec F S1024x1024 .bf16) (x3 x4 : Vec F S2x1024x512 .bf16)
    (x5 : Vec F S2x512x1024 .bf16) (x6 : Vec F S1024x1024 .f32) (x7 : Vec F S1x1x6x1024 .f32) (x8 : Vec F S1x1024 .f32)
    (o9 a : Vec F S1024x1024 .f32) (r : Vec F S16x1024 .f32) (n : Vec F S16 .i32) (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare a
      ∗ owns (c : Thread nD τ) arg13 fullShare r ∗ owns (c : Thread nD τ) arg14 fullShare n
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare (pass i x0 x1 x3 x4 x5 r n a)
      ∗ owns (c : Thread nD τ) arg13 fullShare r ∗ owns (c : Thread nD τ) arg14 fullShare n) -∗ K ⟨⟩))
    ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14) K := by
  simp only [cc0_moe_eq_skeleton]; unfold cc0_moe_skel
  simp only [k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf11
  obtain rfl := harg13.eq_unread hf12
  obtain rfl := harg14.eq_unread hf13
  sl_exec (disch := first | sl_exact hc0 | sl_exact hc1 | with_reducible exact chk1_all _ | with_reducible exact chk2_all _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H11]
  · iexists _; isplitr; swap; · iexact H11
    ipureintro
    rw [pbNil_t2, pbNil_t4]
    simp only [List.nil_append, View.writes_append]
    rw [left_t1 (hk := le_rfl), left_t3 (hk := le_rfl)]
    rw [harg12.read_unread]
    sl_unfold_run_names
    simp only [View.readAt_eq_ld, harg3.read_unread, harg13.read_unread, harg14.read_unread]
    rfl
  isplitl [H12]
  · iexists _; isplitr; · ipureintro; exact harg13.read_unread _
    iexact H12
  iexists _; isplitr; · ipureintro; exact harg14.read_unread _
  iexact H13

end Cert.Kernel2Ideal.Moe

end
-- ==== Proof.ZeroLast.lean ====
module

public import proofs.«01_k».proof.Proof.ZeroBlocks

@[expose] public section

set_option maxRecDepth 16384

noncomputable section

/-!
  Layer 0's call: the body at the last point of a token block.
-/

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen
open Cert.KernelIdeal.Moe (blockStep blocks wIn0 wIn1 wOut0 wOut1 ok_step_one off2 isFirst rowA rowB cntA cntB modRow pass counts)

variable {F : FTy → Type} [FloatOps F]

local notation "𝕄" => MT nD τ sig Unit (Elt F) ℕ (UR sig nD τ) ℕ

set_option maxHeartbeats 4000000 in
/-- The last point of a token block: two experts more, and the finished rows to the result. -/
theorem run_last (c : Dev nD) (i : grid0.Coords)
  (arg2 : Memref sig .tc .vmem S1024x1024 .bf16) (harg2 : arg2.IsWhole)
  (arg3 : Memref sig .tc .vmem S16x1024 .f32) (harg3 : arg3.IsWhole)
  (arg4 : Memref sig .tc .vmem S1024x1024 .bf16) (harg4 : arg4.IsWhole)
  (arg5 : Memref sig .tc .vmem S2x1024x512 .bf16) (harg5 : arg5.IsWhole)
  (arg6 : Memref sig .tc .vmem S2x1024x512 .bf16) (harg6 : arg6.IsWhole)
  (arg7 : Memref sig .tc .vmem S2x512x1024 .bf16) (harg7 : arg7.IsWhole)
  (arg8 : Memref sig .tc .vmem S1024x1024 .f32) (harg8 : arg8.IsWhole)
  (arg9 : Memref sig .tc .vmem S1x1x6x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S16x1024 .f32) (harg13 : arg13.IsWhole)
  (arg14 : Memref sig .tc .smem S16 .i32) (harg14 : arg14.IsWhole)
    (hc0 : ¬ isFirst i) (hc1 : k0_cond2 i = 1#1)
    (x0 : Vec F S1024x1024 .bf16) (x1 : Vec F S16x1024 .f32) (x2 : Vec F S1024x1024 .bf16) (x3 x4 : Vec F S2x1024x512 .bf16)
    (x5 : Vec F S2x512x1024 .bf16) (x6 : Vec F S1024x1024 .f32) (x7 : Vec F S1x1x6x1024 .f32) (x8 : Vec F S1x1024 .f32)
    (o9 a : Vec F S1024x1024 .f32) (r : Vec F S16x1024 .f32) (n : Vec F S16 .i32) (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare o9 ∗ owns (c : Thread nD τ) arg12 fullShare a
      ∗ owns (c : Thread nD τ) arg13 fullShare r ∗ owns (c : Thread nD τ) arg14 fullShare n
      ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare (k0_pay3 x6 (modRow x7) (pass i x0 x1 x3 x4 x5 r n a)) ∗ owns (c : Thread nD τ) arg12 fullShare (pass i x0 x1 x3 x4 x5 r n a)
      ∗ owns (c : Thread nD τ) arg13 fullShare r ∗ owns (c : Thread nD τ) arg14 fullShare n) -∗ K ⟨⟩))
    ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14) K := by
  simp only [cc0_moe_eq_skeleton]; unfold cc0_moe_skel
  simp only [k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf11
  obtain rfl := harg13.eq_unread hf12
  obtain rfl := harg14.eq_unread hf13
  sl_exec (disch := first | sl_exact hc0 | sl_exact hc1 | with_reducible exact chk1_all _ | with_reducible exact chk2_all _)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    rw [read_whole_piece]
    sl_unfold_run_names
    simp only [View.readAt_eq_ld]
    rw [pbNil_t2, pbNil_t4]
    simp only [List.nil_append, View.writes_append]
    rw [left_t1 (hk := le_rfl), left_t3 (hk := le_rfl)]
    simp only [harg3.read_unread, harg8.read_unread, harg9.read_unread, harg12.read_unread, harg13.read_unread, harg14.read_unread]
    rw [ld_whole, ld_whole]
    rfl
  isplitl [H11]
  · iexists _; isplitr; swap; · iexact H11
    ipureintro
    rw [pbNil_t2, pbNil_t4]
    simp only [List.nil_append, View.writes_append]
    rw [left_t1 (hk := le_rfl), left_t3 (hk := le_rfl)]
    rw [harg12.read_unread]
    sl_unfold_run_names
    simp only [View.readAt_eq_ld, harg3.read_unread, harg13.read_unread, harg14.read_unread]
    rfl
  isplitl [H12]
  · iexists _; isplitr; · ipureintro; exact harg13.read_unread _
    iexact H12
  iexists _; isplitr; · ipureintro; exact harg14.read_unread _
  iexact H13

end Cert.Kernel2Ideal.Moe

end
-- ==== Proof.ZeroData.lean ====
module

public import proofs.«01_k».proof.Proof.ZeroFirst
public import proofs.«01_k».proof.Proof.ZeroMid
public import proofs.«01_k».proof.Proof.ZeroLast
public import Idealize.ShloMosaic.Lib.Pipeline.TableIdle
public import Idealize.ShloMosaic.Lib.Pipeline.FrameBody
public import Idealize.ShloMosaic.Lib.WordCmp

@[expose] public section

set_option maxRecDepth 16384

noncomputable section

/-!
  Layer 0's call: what the scratch and the result's buffer hold, point by point.
-/

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen
open Cert.KernelIdeal.Moe (blockStep blocks wIn0 wIn1 wOut0 wOut1 ok_step_one off2 isFirst rowA rowB cntA cntB modRow pass counts)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the kernel's conditions hold, and where its output is idle -/

theorem isFirst_iff : ∀ t : Fin cfg0.N, isFirst (grid0.coords t) ↔ t.val % 8 = 0 :=
  (fun t => by
    have ht : t.val < 288 := Nat.lt_of_lt_of_eq t.isLt N_0
    have e1 : (grid0.coords t 1).val = t.val / 1 % 8 := Pipeline.Grid.coords_val t 1 (by decide) rfl
    simp only [isFirst, e1]
    word_cmp
   : ∀ t : Fin grid0.N, isFirst (grid0.coords t) ↔ t.val % 8 = 0)

theorem cond2_iff : ∀ t : Fin cfg0.N, k0_cond2 (grid0.coords t) = 1#1 ↔ t.val % 8 = 7 :=
  (fun t => by
    have ht : t.val < 288 := Nat.lt_of_lt_of_eq t.isLt N_0
    have e1 : (grid0.coords t 1).val = t.val / 1 % 8 := Pipeline.Grid.coords_val t 1 (by decide) rfl
    simp only [k0_cond2, e1]
    word_cmp
   : ∀ t : Fin grid0.N, k0_cond2 (grid0.coords t) = 1#1 ↔ t.val % 8 = 7)

/-- The result's buffer is stored into at the last point of a block, -/
theorem live9 : ∀ t : Fin cfg0.N, t.val % 8 = 7 → cfg0.idle 9 (grid0.coords t) = false := by decide +kernel
/-- and at no other; -/
theorem idle9 : ∀ t : Fin cfg0.N, ¬ t.val % 8 = 7 → cfg0.idle 9 (grid0.coords t) = true := by decide +kernel
/-- it is written back only there. -/
theorem noFlush9 : ∀ t : Fin cfg0.N, ¬ t.val % 8 = 7 → (cfg0.win 9).flush t = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl

/-! ## The buffers the body is handed -/

abbrev st0 (t : Fin cfg0.N) : Memref sig .tc .vmem S1024x1024 .bf16 := win0_0.stage (cfg0.slots t 0)
abbrev st1 (t : Fin cfg0.N) : Memref sig .tc .vmem S16x1024 .f32 := win0_1.stage (cfg0.slots t 1)
abbrev st2 (t : Fin cfg0.N) : Memref sig .tc .vmem S1024x1024 .bf16 := win0_2.stage (cfg0.slots t 2)
abbrev st3 (t : Fin cfg0.N) : Memref sig .tc .vmem S2x1024x512 .bf16 := win0_3.stage (cfg0.slots t 3)
abbrev st4 (t : Fin cfg0.N) : Memref sig .tc .vmem S2x1024x512 .bf16 := win0_4.stage (cfg0.slots t 4)
abbrev st5 (t : Fin cfg0.N) : Memref sig .tc .vmem S2x512x1024 .bf16 := win0_5.stage (cfg0.slots t 5)
abbrev st6 (t : Fin cfg0.N) : Memref sig .tc .vmem S1024x1024 .f32 := win0_6.stage (cfg0.slots t 6)
abbrev st7 (t : Fin cfg0.N) : Memref sig .tc .vmem S1x1x6x1024 .f32 := win0_7.stage (cfg0.slots t 7)
abbrev st8 (t : Fin cfg0.N) : Memref sig .tc .vmem S1x1024 .f32 := win0_8.stage (cfg0.slots t 8)
abbrev st9 (t : Fin cfg0.N) : Memref sig .tc .vmem S1024x1024 .f32 := win0_9.stage (cfg0.slots t 9)
abbrev scA : Memref sig .tc .vmem S1024x1024 .f32 := Memref.whole cc0_scratch0
abbrev scR : Memref sig .tc .vmem S16x1024 .f32 := Memref.whole cc0_scratch1
abbrev scN : Memref sig .tc .smem S16 .i32 := Memref.whole cc0_scratch2

/-- What the launch hands the region, with the three scratch buffers as owned memrefs. -/
theorem start_eq (c : Dev nD) :
    (Pipeline.ΦA spec0 c : sProp 𝕄)
      = iprop(iprop((∃ d, owns (c : Thread nD τ) scA fullShare d) ∗ (∃ d, owns (c : Thread nD τ) scR fullShare d) ∗ (∃ d, owns (c : Thread nD τ) scN fullShare d)) ∗ (∃ r, prngReg c r)) := by
  unfold Pipeline.ΦA; rw [scopedRest0_eq]; simp only [scA, scR, scN, owns_whole]; try rfl

/-! ## What the scratch and the result holds, point by point -/

/-- Window 0's block at a point. -/
abbrev blk0 (c : Dev nD) (t : Fin cfg0.N) : Vec F S1024x1024 .bf16 := iblk m c 0 t
/-- Window 1's block at a point. -/
abbrev blk1 (c : Dev nD) (t : Fin cfg0.N) : Vec F S16x1024 .f32 := iblk m c 1 t
/-- Window 2's block at a point. -/
abbrev blk2 (c : Dev nD) (t : Fin cfg0.N) : Vec F S1024x1024 .bf16 := iblk m c 2 t
/-- Window 3's block at a point. -/
abbrev blk3 (c : Dev nD) (t : Fin cfg0.N) : Vec F S2x1024x512 .bf16 := iblk m c 3 t
/-- Window 4's block at a point. -/
abbrev blk4 (c : Dev nD) (t : Fin cfg0.N) : Vec F S2x1024x512 .bf16 := iblk m c 4 t
/-- Window 5's block at a point. -/
abbrev blk5 (c : Dev nD) (t : Fin cfg0.N) : Vec F S2x512x1024 .bf16 := iblk m c 5 t
/-- Window 6's block at a point. -/
abbrev blk6 (c : Dev nD) (t : Fin cfg0.N) : Vec F S1024x1024 .f32 := iblk m c 6 t
/-- Window 7's block at a point. -/
abbrev blk7 (c : Dev nD) (t : Fin cfg0.N) : Vec F S1x1x6x1024 .f32 := iblk m c 7 t
/-- Window 8's block at a point. -/
abbrev blk8 (c : Dev nD) (t : Fin cfg0.N) : Vec F S1x1024 .f32 := iblk m c 8 t

/-- The scratch after a block's first point: accumulator, ranks, counts. -/
def firstScr (c : Dev nD) (t : Fin cfg0.N) : Vec F S1024x1024 .f32 × Vec F S16x1024 .f32 × Vec F S16 .i32 :=
  (pass (grid0.coords t) (blk0 m c t) (blk1 m c t) (blk3 m c t) (blk4 m c t) (blk5 m c t) (k0_pay6 (blk1 m c t) (blk2 m c t)) (counts (blk1 m c t)) k0_pay4,
    k0_pay6 (blk1 m c t) (blk2 m c t), counts (blk1 m c t))

/-- The scratch after any other point, out of what the point before left. -/
def nextScr (c : Dev nD) (t : Fin cfg0.N) (s : Vec F S1024x1024 .f32 × Vec F S16x1024 .f32 × Vec F S16 .i32) :
    Vec F S1024x1024 .f32 × Vec F S16x1024 .f32 × Vec F S16 .i32 :=
  (pass (grid0.coords t) (blk0 m c t) (blk1 m c t) (blk3 m c t) (blk4 m c t) (blk5 m c t) s.2.1 s.2.2 s.1, s.2.1, s.2.2)

/-- The scratch after point `n`. -/
def scrAt (c : Dev nD) : (n : ℕ) → n < cfg0.N → Vec F S1024x1024 .f32 × Vec F S16x1024 .f32 × Vec F S16 .i32
  | 0, h => firstScr m c ⟨0, h⟩
  | n + 1, h => if (n + 1) % 8 = 0 then firstScr m c ⟨n + 1, h⟩ else nextScr m c ⟨n + 1, h⟩ (scrAt c n (Nat.lt_of_succ_lt h))

theorem scrAt_first (c : Dev nD) (t : Fin cfg0.N) (h0 : t.val % 8 = 0) : scrAt m c t.val t.isLt = firstScr m c t := by
  obtain ⟨n, hn⟩ := t
  cases n with
  | zero => rfl
  | succ n => exact if_pos h0

theorem scrAt_next (c : Dev nD) (t : Fin cfg0.N) (h0 : ¬ t.val % 8 = 0) :
    scrAt m c t.val t.isLt = nextScr m c t (scrAt m c (t.val - 1) (by omega)) := by
  obtain ⟨n, hn⟩ := t
  cases n with
  | zero => exact absurd rfl h0
  | succ n => exact if_neg h0

/-- The finished rows of a block, at its last point. -/
def rowsAt (c : Dev nD) (t : Fin cfg0.N) : Vec F S1024x1024 .f32 :=
  k0_pay3 (blk6 m c t) (modRow (blk7 m c t)) (scrAt m c t.val t.isLt).1

/-- The last point of a point's block. -/
def last9 (t : Fin cfg0.N) : Fin cfg0.N := ⟨8 * (t.val / 8) + 7, by have : cfg0.N = 288 := N_0; have := t.isLt; omega⟩

theorem last9_self (t : Fin cfg0.N) (h : t.val % 8 = 7) : last9 t = t := Fin.ext (by show 8 * (t.val / 8) + 7 = _; omega)
/-- The invariant before position `n`: before the first point every scratch at anything; then at what the point before left. -/
def inv (c : Dev nD) : (n : ℕ) → n ≤ cfg0.N → sProp 𝕄
  | 0, _ => Pipeline.ΦA spec0 c
  | n + 1, hn => iprop(iprop(owns (c : Thread nD τ) scA fullShare (scrAt m c n hn).1 ∗ owns (c : Thread nD τ) scR fullShare (scrAt m c n hn).2.1
      ∗ owns (c : Thread nD τ) scN fullShare (scrAt m c n hn).2.2) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop(owns (c : Thread nD τ) scA fullShare (scrAt m c (n - 1) (by omega)).1 ∗ owns (c : Thread nD τ) scR fullShare (scrAt m c (n - 1) (by omega)).2.1
      ∗ owns (c : Thread nD τ) scN fullShare (scrAt m c (n - 1) (by omega)).2.2) ∗ (∃ r, prngReg c r)) := by
  cases n with
  | zero => exact absurd rfl hz
  | succ n => rfl

/-- The pipeline's proof data: the arrays as the region finds them, each input's buffer at its block, the result's at the
    finished rows, the scratch as `inv` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowsAt m c (last9 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = rowsAt m c (last9 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem leaves0 (c : Dev nD) (t : Fin cfg0.N) : (dats m 0 c).leavesExact 0 t = owns (c : Thread nD τ) (st0 t) fullShare (iblk m c 0 t) := by
  unfold Dat.leavesExact; rw [live0 t, after0]
theorem leaves1 (c : Dev nD) (t : Fin cfg0.N) : (dats m 0 c).leavesExact 1 t = owns (c : Thread nD τ) (st1 t) fullShare (iblk m c 1 t) := by
  unfold Dat.leavesExact; rw [live1 t, after1]
theorem leaves2 (c : Dev nD) (t : Fin cfg0.N) : (dats m 0 c).leavesExact 2 t = owns (c : Thread nD τ) (st2 t) fullShare (iblk m c 2 t) := by
  unfold Dat.leavesExact; rw [live2 t, after2]
theorem leaves3 (c : Dev nD) (t : Fin cfg0.N) : (dats m 0 c).leavesExact 3 t = owns (c : Thread nD τ) (st3 t) fullShare (iblk m c 3 t) := by
  unfold Dat.leavesExact; rw [live3 t, after3]
theorem leaves4 (c : Dev nD) (t : Fin cfg0.N) : (dats m 0 c).leavesExact 4 t = owns (c : Thread nD τ) (st4 t) fullShare (iblk m c 4 t) := by
  unfold Dat.leavesExact; rw [live4 t, after4]
theorem leaves5 (c : Dev nD) (t : Fin cfg0.N) : (dats m 0 c).leavesExact 5 t = owns (c : Thread nD τ) (st5 t) fullShare (iblk m c 5 t) := by
  unfold Dat.leavesExact; rw [live5 t, after5]
theorem leaves6 (c : Dev nD) (t : Fin cfg0.N) : (dats m 0 c).leavesExact 6 t = owns (c : Thread nD τ) (st6 t) fullShare (iblk m c 6 t) := by
  unfold Dat.leavesExact; rw [live6 t, after6]
theorem leaves7 (c : Dev nD) (t : Fin cfg0.N) : (dats m 0 c).leavesExact 7 t = owns (c : Thread nD τ) (st7 t) fullShare (iblk m c 7 t) := by
  unfold Dat.leavesExact; rw [live7 t, after7]
theorem leaves8 (c : Dev nD) (t : Fin cfg0.N) : (dats m 0 c).leavesExact 8 t = owns (c : Thread nD τ) (st8 t) fullShare (iblk m c 8 t) := by
  unfold Dat.leavesExact; rw [live8 t, after8]

/-- A point that stores into the result's buffer leaves it at the finished rows. -/
theorem leaves9_live (c : Dev nD) (t : Fin cfg0.N) (h : t.val % 8 = 7) :
    (dats m 0 c).leavesExact 9 t = owns (c : Thread nD τ) (st9 t) fullShare (rowsAt m c t) := by
  unfold Dat.leavesExact; rw [live9 t h, after9, last9_self t h]
/-- A point that does not store into it hands it back as found. -/
theorem leaves9_idle (c : Dev nD) (t : Fin cfg0.N) (h : ¬ t.val % 8 = 7) (d) :
    owns (c : Thread nD τ) (st9 t) fullShare ((dats m 0 c).before 9 t d) ⊢ ((dats m 0 c).leavesExact 9 t : sProp 𝕄) := by
  rw [Dat.leavesExact_idle (dats m 0 c) 9 t (idle9 t h) (noFlush9 t h)]
  iintro H
  iexists _
  iexact H

end Cert.Kernel2Ideal.Moe

end
-- ==== Proof.ZeroWhole.lean ====
module

public import proofs.«01_k».proof.Proof.ZeroData
public import Idealize.ShloMosaic.Lib.Claim

@[expose] public section

set_option maxRecDepth 16384

noncomputable section

/-!
  Layer 0's call: the body at every point, the run and the frame.
-/

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen
open Cert.KernelIdeal.Moe (blockStep blocks wIn0 wIn1 wOut0 wOut1 ok_step_one off2 isFirst rowA rowB cntA cntB modRow pass counts)

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-! ## The body at every point -/

/-- What the body is called with at a point, -/
def before (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d)))

/-- and what it returns. -/
def leaves (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem inv_succ (c : Dev nD) (t : Fin cfg0.N) : (dats m 0 c).Φ t.succ
    = iprop(iprop(owns (c : Thread nD τ) scA fullShare (scrAt m c t.val t.isLt).1 ∗ owns (c : Thread nD τ) scR fullShare (scrAt m c t.val t.isLt).2.1
      ∗ owns (c : Thread nD τ) scN fullShare (scrAt m c t.val t.isLt).2.2) ∗ (∃ r, prngReg c r)) := rfl

set_option maxHeartbeats 4000000 in
/-- A block's first point. -/
theorem body_first (c : Dev nD) (t : Fin cfg0.N) (h0 : t.val % 8 = 0) :
    before m c t ⊢ wp frame (wpE (defs₀ (F := F)) Variants.none c none) Set.univ (bodyAt0 t) (fun _ => leaves m c t) := by
  unfold before leaves bodyAt0
  simp only [before0, before1, before2, before3, before4, before5, before6, before7, before8]
  rw [show (dats m 0 c).owesAt () t.succ = (dats m 0 c).owesAt () t.castSucc from rfl, inv_succ, inv_castSucc]
  simp only [leaves0, leaves1, leaves2, leaves3, leaves4, leaves5, leaves6, leaves7, leaves8]
  rw [scrAt_first m c t h0]
  by_cases hz : t.val = 0
  · rw [inv_zero m c t.val _ hz, start_eq]
    iintro ⟨⟨⟨⟨%a, HA⟩, ⟨%r, HR⟩, ⟨%n, HN⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) scA (Memref.isWhole_whole _) scR (Memref.isWhole_whole _) scN (Memref.isWhole_whole _) ((isFirst_iff t).mpr h0) (fun h => absurd ((cond2_iff t).mp h) (by omega)) (blk0 m c t) (blk1 m c t) (blk2 m c t) (blk3 m c t) (blk4 m c t) (blk5 m c t) (blk6 m c t) (blk7 m c t) (blk8 m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HR]; · iexact HR
    isplitl [HN]; · iexact HN
    iintro ⟨H0, H1, H2, H3, H4, H5, H6, H7, H8, H9, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves9_idle m c t (by omega) d9); iexact H9
  · rw [inv_pos m c t.val _ hz]
    iintro ⟨⟨⟨HA, HR, HN⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) scA (Memref.isWhole_whole _) scR (Memref.isWhole_whole _) scN (Memref.isWhole_whole _) ((isFirst_iff t).mpr h0) (fun h => absurd ((cond2_iff t).mp h) (by omega)) (blk0 m c t) (blk1 m c t) (blk2 m c t) (blk3 m c t) (blk4 m c t) (blk5 m c t) (blk6 m c t) (blk7 m c t) (blk8 m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HR]; · iexact HR
    isplitl [HN]; · iexact HN
    iintro ⟨H0, H1, H2, H3, H4, H5, H6, H7, H8, H9, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves9_idle m c t (by omega) d9); iexact H9

set_option maxHeartbeats 4000000 in
/-- A point in the middle of a block. -/
theorem body_mid (c : Dev nD) (t : Fin cfg0.N) (h0 : ¬ t.val % 8 = 0) (h7 : ¬ t.val % 8 = 7) :
    before m c t ⊢ wp frame (wpE (defs₀ (F := F)) Variants.none c none) Set.univ (bodyAt0 t) (fun _ => leaves m c t) := by
  unfold before leaves bodyAt0
  simp only [before0, before1, before2, before3, before4, before5, before6, before7, before8]
  rw [show (dats m 0 c).owesAt () t.succ = (dats m 0 c).owesAt () t.castSucc from rfl, inv_succ, inv_castSucc]
  simp only [leaves0, leaves1, leaves2, leaves3, leaves4, leaves5, leaves6, leaves7, leaves8]
  · rw [inv_pos m c t.val _ (by omega)]
    rw [scrAt_next m c t (by omega)]
    iintro ⟨⟨⟨HA, HR, HN⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_mid c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) scA (Memref.isWhole_whole _) scR (Memref.isWhole_whole _) scN (Memref.isWhole_whole _) (fun h => h0 ((isFirst_iff t).mp h)) (fun h => h7 ((cond2_iff t).mp h)) (blk0 m c t) (blk1 m c t) (blk2 m c t) (blk3 m c t) (blk4 m c t) (blk5 m c t) (blk6 m c t) (blk7 m c t) (blk8 m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HR]; · iexact HR
    isplitl [HN]; · iexact HN
    iintro ⟨H0, H1, H2, H3, H4, H5, H6, H7, H8, H9, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves9_idle m c t (by omega) d9); iexact H9

set_option maxHeartbeats 4000000 in
/-- The last point of a block. -/
theorem body_last (c : Dev nD) (t : Fin cfg0.N) (h7 : t.val % 8 = 7) :
    before m c t ⊢ wp frame (wpE (defs₀ (F := F)) Variants.none c none) Set.univ (bodyAt0 t) (fun _ => leaves m c t) := by
  unfold before leaves bodyAt0
  simp only [before0, before1, before2, before3, before4, before5, before6, before7, before8]
  rw [show (dats m 0 c).owesAt () t.succ = (dats m 0 c).owesAt () t.castSucc from rfl, inv_succ, inv_castSucc]
  simp only [leaves0, leaves1, leaves2, leaves3, leaves4, leaves5, leaves6, leaves7, leaves8]
  rw [leaves9_live m c t h7]
  · rw [inv_pos m c t.val _ (by omega)]
    unfold rowsAt
    rw [scrAt_next m c t (by omega)]
    iintro ⟨⟨⟨HA, HR, HN⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_last c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) scA (Memref.isWhole_whole _) scR (Memref.isWhole_whole _) scN (Memref.isWhole_whole _) (fun h => absurd ((isFirst_iff t).mp h) (by omega)) ((cond2_iff t).mpr h7) (blk0 m c t) (blk1 m c t) (blk2 m c t) (blk3 m c t) (blk4 m c t) (blk5 m c t) (blk6 m c t) (blk7 m c t) (blk8 m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HR]; · iexact HR
    isplitl [HN]; · iexact HN
    iintro ⟨H0, H1, H2, H3, H4, H5, H6, H7, H8, H9, HA, HR, HN⟩
    isplitl [HA HR HN Hg]
    · isplitl [HA HR HN]
      · isplitl [HA]; · iexact HA
        isplitl [HR]; · iexact HR
        iexact HN
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body at any point. -/
theorem body (c : Dev nD) (t : Fin cfg0.N) :
    before m c t ⊢ wp frame (wpE (defs₀ (F := F)) Variants.none c none) Set.univ (bodyAt0 t) (fun _ => leaves m c t) := by
  by_cases h0 : t.val % 8 = 0
  · exact body_first m c t h0
  by_cases h7 : t.val % 8 = 7
  · exact body_last m c t h7
  · exact body_mid m c t h0 h7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  have hN : cfg0.N = 288 := N_0
  rw [show (dats m 0 c).Φ (Fin.last cfg0.N) = inv m c cfg0.N le_rfl from rfl, inv_pos m c _ _ (by omega), start_eq]
  iintro ⟨⟨HA, HR, HN⟩, Hg⟩
  isplitl [HA HR HN]
  · isplitl [HA]
    · iexists _; iexact HA
    isplitl [HR]
    · iexists _; iexact HR
    iexists _; iexact HN
  iexact Hg

/-! ## The run and the frame -/

set_option backward.isDefEq.respectTransparency.types false in
/-- Every execution ends with the arrays at what the proof data say and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: every execution ends, the argument arrays as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.Kernel2Ideal.Moe

end
-- ==== Proof.ZeroSame.lean ====
module

public import proofs.«01_k».proof.Proof.Gen.Kernel2
public import proofs.«01_k».proof.Proof.Gen.Kernel2Ideal

@[expose] public section

set_option maxRecDepth 16384

noncomputable section

/-! Layer 0's two printed kernels are one program. -/

namespace Cert.Proof

open Idealize.ShloMosaic

attribute [local instance] Cert.Kernel2.Gen.facts Cert.Kernel2Ideal.Gen.facts

variable {F : FTy → Type} [FloatOps F]

set_option maxHeartbeats 2000000 in
theorem main2_same : Cert.Kernel2.main (F := F) = Cert.Kernel2Ideal.main (F := F) := by
  unfold Cert.Kernel2.main Cert.Kernel2Ideal.main Cert.Kernel2.fn_triu.body Cert.Kernel2Ideal.fn_triu.body
  rfl

set_option maxHeartbeats 2000000 in
theorem bodies2_same : Cert.Kernel2.defs₀ (F := F) = Cert.Kernel2Ideal.defs₀ (F := F) := by
  unfold Cert.Kernel2.defs₀ Cert.Kernel2Ideal.defs₀
  congr 1
  funext f
  match f with
  | 0 => rfl

theorem defs2_same : Cert.Kernel2.defs (F := F) = Cert.Kernel2Ideal.defs (F := F) := by
  unfold Cert.Kernel2.defs Cert.Kernel2Ideal.defs
  exact congrArg (Pipeline.defs Cert.Kernel2Ideal.pcfgs) bodies2_same

end Cert.Proof

end
-- ==== Proof.ZeroReads.lean ====
module

public import proofs.«01_k».proof.Proof.ZeroData
public import proofs.«01_k».proof.Proof.Reads
public import proofs.«01_k».proof.Proof.Spec
public import Idealize.ShloMosaic.Lib.Pipeline.ValueKit

@[expose] public section
set_option maxRecDepth 16384
noncomputable section

/-!
  Layer 0's call: the kernel's input blocks, entry by entry, in terms of the program's arguments.
-/

namespace Cert.Kernel2Ideal.Moe
open Idealize.ShloMosaic Idealize.ShloMosaic.TcCoe
open Cert.Kernel2Ideal Cert.Kernel2Ideal.Gen
open Cert.KernelIdeal.Moe (blockStep blocks wIn0 wIn1 wOut0 wOut1 ok_step_one off2 isFirst rowA rowB cntA cntB modRow pass counts tok term moe pass_value expA expB)

variable (m : (ℓ : Loc nD τ sig) → Buf (Elt Ideal) ℓ) (c : Dev nD)

/-! ## Where each window's block sits at a point -/

theorem idx0 : ∀ t : Fin grid0.N, win0_0.index t = ![t.val / 8, 0] := by decide +kernel
theorem idx1 : ∀ t : Fin grid0.N, win0_1.index t = ![0, t.val / 8] := by decide +kernel
theorem idx2 : ∀ t : Fin grid0.N, win0_2.index t = ![0, 0] := by decide +kernel
theorem idx3 : ∀ t : Fin grid0.N, win0_3.index t = ![t.val % 8, 0, 0] := by decide +kernel
theorem idx4 : ∀ t : Fin grid0.N, win0_4.index t = ![t.val % 8, 0, 0] := by decide +kernel
theorem idx5 : ∀ t : Fin grid0.N, win0_5.index t = ![t.val % 8, 0, 0] := by decide +kernel
theorem idx6 : ∀ t : Fin grid0.N, win0_6.index t = ![t.val / 8, 0] := by decide +kernel
theorem idx7 : ∀ t : Fin grid0.N, win0_7.index t = ![0, t.val / 32, 0, 0] := by decide +kernel
theorem idx9 : ∀ t : Fin grid0.N, win0_9.index t = ![t.val / 8, 0] := by decide +kernel

/-- The token block of a point -/
def blkOf (t : Fin cfg0.N) : Fin 36 := ⟨t.val / 8, by have : cfg0.N = 288 := N_0; have := t.isLt; omega⟩
/-- and its pair of experts. -/
def pairOf (t : Fin cfg0.N) : Fin 8 := ⟨t.val % 8, by omega⟩

theorem pair_coord (t : Fin cfg0.N) : (grid0.coords t 1).val = (pairOf t).val := by
  have e1 : (grid0.coords t 1).val = t.val / 1 % 8 := Pipeline.Grid.coords_val t 1 (by decide) rfl
  rw [e1, Nat.div_one]; rfl

/-! ## The blocks, read off the argument arrays -/

theorem blk0_at (t : Fin cfg0.N) (r k : Fin 1024) : blk0 m c t (ix2 r k) = m (c.tc.loc main_arg0) (ix2 (tok (blkOf t) r) k) := by
  unfold blk0 tok blkOf
  blk_ext [iblk, V, idx0 t]

theorem blk1_at (t : Fin cfg0.N) (e : Fin 16) (r : Fin 1024) : blk1 m c t (ix2 e r) = m (c.tc.loc main_arg1) (ix2 e (tok (blkOf t) r)) := by
  unfold blk1 tok blkOf
  blk_ext [iblk, V, idx1 t]

theorem blk2_at (t : Fin cfg0.N) (r s : Fin 1024) : blk2 m c t (ix2 r s) = V m c main_v4 (ix2 r s) := by
  unfold blk2
  blk_ext [iblk, idx2 t]

theorem blk3_at (t : Fin cfg0.N) (s : Fin 2) (k : Fin 1024) (f : Fin 512) (e : Fin 16) (he : e.val = t.val % 8 * 2 + s.val) : blk3 m c t (ix3 s k f) = m (c.tc.loc main_arg2) (ix3 e k f) := by
  unfold blk3
  blk_ext [iblk, V, idx3 t]

theorem blk4_at (t : Fin cfg0.N) (s : Fin 2) (k : Fin 1024) (f : Fin 512) (e : Fin 16) (he : e.val = t.val % 8 * 2 + s.val) : blk4 m c t (ix3 s k f) = m (c.tc.loc main_arg3) (ix3 e k f) := by
  unfold blk4
  blk_ext [iblk, V, idx4 t]

theorem blk5_at (t : Fin cfg0.N) (s : Fin 2) (k : Fin 1024) (f : Fin 512) (e : Fin 16) (he : e.val = t.val % 8 * 2 + s.val) : blk5 m c t (ix3 s f k) = m (c.tc.loc main_arg4) (ix3 e f k) := by
  unfold blk5
  blk_ext [iblk, V, idx5 t]

theorem blk6_at (t : Fin cfg0.N) (r k : Fin 1024) : blk6 m c t (ix2 r k) = m (c.tc.loc main_arg5) (ix2 (tok (blkOf t) r) k) := by
  unfold blk6 tok blkOf
  blk_ext [iblk, V, idx6 t]

theorem blk7_at (t : Fin cfg0.N) (q : Fin 6) (d : Fin 1024) : blk7 m c t (ix4 0 0 q d) = m (c.tc.loc main_arg6) (ix4 0 ⟨t.val / 32, by have : cfg0.N = 288 := N_0; have := t.isLt; omega⟩ q d) := by
  unfold blk7
  blk_ext [iblk, V, idx7 t]

/-- The triangle of ones that the program builds before the kernel. -/
theorem tri_at (r s : Fin 1024) : V m c main_v4 (ix2 r s) = if r < s then (1 : EReal) else 0 := by
  show StableHlo.after (List.flatten [hostOps0, hostOps0_1, hostOps0_2]) (fun b => m (c, b)) main_v4 (ix2 r s) = _
  simp only [hostOps0, hostOps0_1, hostOps0_2, List.flatten_cons, List.flatten_nil, List.append_nil, List.cons_append,
      List.nil_append]
  entry_read
  show select (cmpi .sge (addi (iotaInDim S1024x1024 32 0) (broadcastInDim S1024x1024 ![] bcast_S_S1024x1024 (constantI S_ 32 0#32))) (iotaInDim S1024x1024 32 1))
    (broadcastInDim S1024x1024 ![] bcast_S_S1024x1024 (constant (F := Ideal) S_ .bf16 0x0000#16)) (broadcastInDim S1024x1024 ![] bcast_S_S1024x1024 (constant (F := Ideal) S_ .bf16 0x3F80#16)) (ix2 r s) = _
  pointwise
  have hr := r.isLt
  have hs := s.isLt
  have h : IntOp.cmpi CmpIPredicate.sge (IntOp.addi (BitVec.ofNat 32 r.val) 0#32) (BitVec.ofNat 32 s.val) = if s ≤ r then 1#1 else 0#1 := by
    show BitVec.ofBool ((BitVec.ofNat 32 s.val).sle (BitVec.ofNat 32 r.val + 0#32)) = _
    rw [BitVec.add_zero, BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    by_cases hc : s ≤ r
    · rw [if_pos hc, decide_eq_true (by exact_mod_cast hc)]; rfl
    · rw [if_neg hc, decide_eq_false (by exact_mod_cast hc)]; rfl
  rw [h]
  by_cases hc : r < s
  · rw [if_pos hc, if_neg (not_le.2 hc)]; rfl
  · rw [if_neg hc, if_pos (not_lt.1 hc)]; rfl
end Cert.Kernel2Ideal.Moe
end
-- ==== Proof.ZeroValue.lean ====
module

public import proofs.«01_k».proof.Proof.ZeroReads
public import proofs.«01_k».proof.Proof.Spec

@[expose] public section

set_option maxRecDepth 16384

noncomputable section

/-!
  Layer 0's call: what the kernel leaves in its result, entry by entry, when every gate is nonnegative.
-/

namespace Cert.Kernel2Ideal.Moe

open Idealize.ShloMosaic Idealize.ShloMosaic.TcCoe
open Cert.Kernel2Ideal Cert.Kernel2Ideal.Gen
open Cert.KernelIdeal.Moe (blockStep blocks wIn0 wIn1 wOut0 wOut1 ok_step_one off2 isFirst rowA rowB cntA cntB modRow pass counts tok term moe pass_value expA expB)

variable (m : (ℓ : Loc nD τ sig) → Buf (Elt Ideal) ℓ) (c : Dev nD)

/-- The gates of the run. -/
abbrev gatesOf : Vec Ideal S16x36864 .f32 := m (c.tc.loc main_arg1)

/-- One expert's share of a token's row, as a function of a bare number; zero beyond the sixteenth. -/
def share (b : Fin 36) (r d : Fin 1024) (n : ℕ) : EReal :=
  if h : n < 16 then
    term (m (c.tc.loc main_arg0)) (m (c.tc.loc main_arg1)) (m (c.tc.loc main_arg2)) (m (c.tc.loc main_arg3)) (m (c.tc.loc main_arg4)) (tok b r) ⟨n, h⟩ d
  else 0

theorem share_sum (b : Fin 36) (r d : Fin 1024) : ∑ n ∈ Finset.range 16, share m c b r d n
    = moe (m (c.tc.loc main_arg0)) (m (c.tc.loc main_arg1)) (m (c.tc.loc main_arg2)) (m (c.tc.loc main_arg3)) (m (c.tc.loc main_arg4)) (tok b r) d := by
  rw [Finset.sum_range]
  unfold moe
  exact Finset.sum_congr rfl fun x _ => by unfold share; rw [dif_pos x.isLt]

/-- Both kernels rank a token by the same sum. -/
theorem ranks_same (g : Vec Ideal S16x1024 .f32) (u : Vec Ideal S1024x1024 .bf16) : k0_pay6 g u = Cert.KernelIdeal.Gen.k0_pay6 g u := rfl

/-- One point's pass adds its two experts' shares. -/
theorem pass_at (hg : ∀ e t, (0 : EReal) ≤ gatesOf m c (ix2 e t)) (t : Fin cfg0.N) (a : Vec Ideal S1024x1024 .f32) (r d : Fin 1024) :
    pass (grid0.coords t) (blk0 m c t) (blk1 m c t) (blk3 m c t) (blk4 m c t) (blk5 m c t) (k0_pay6 (blk1 m c t) (blk2 m c t)) (counts (blk1 m c t)) a (ix2 r d)
      = a (ix2 r d) + share m c (blkOf t) r d (2 * (t.val % 8)) + share m c (blkOf t) r d (2 * (t.val % 8) + 1) := by
  rw [ranks_same, pass_value (grid0.coords t) (pairOf t) (pair_coord t) _ _ _ (fun i j => by rw [blk2_at]; exact tri_at m c i j)
    (fun e s => by rw [blk1_at]; exact hg _ _)]
  unfold share term
  rw [dif_pos (by omega), dif_pos (by omega)]
  simp only [blk0_at, blk1_at, blk3_at m c t 0 _ _ (expA (pairOf t)) (Nat.mul_comm _ _), blk4_at m c t 0 _ _ (expA (pairOf t)) (Nat.mul_comm _ _),
    blk5_at m c t 0 _ _ (expA (pairOf t)) (Nat.mul_comm _ _),
    blk3_at m c t 1 _ _ (expB (pairOf t)) (congrArg (· + 1) (Nat.mul_comm _ _)), blk4_at m c t 1 _ _ (expB (pairOf t)) (congrArg (· + 1) (Nat.mul_comm _ _)),
    blk5_at m c t 1 _ _ (expB (pairOf t)) (congrArg (· + 1) (Nat.mul_comm _ _))]
  rfl

/-- A block's first point starts from zero. -/
theorem zeros_at (r d : Fin 1024) : k0_pay4 (F := Ideal) (ix2 r d) = 0 := by
  pointwise [k0_pay4]

/-- The scratch after every point. -/
theorem scr_at (hg : ∀ e t, (0 : EReal) ≤ gatesOf m c (ix2 e t)) (n : ℕ) (hn : n < cfg0.N) :
    (scrAt m c n hn).2.1 = k0_pay6 (blk1 m c ⟨n, hn⟩) (blk2 m c ⟨n, hn⟩) ∧ (scrAt m c n hn).2.2 = counts (blk1 m c ⟨n, hn⟩)
      ∧ ∀ r d, (scrAt m c n hn).1 (ix2 r d) = ∑ k ∈ Finset.range (2 * (n % 8) + 2), share m c (blkOf ⟨n, hn⟩) r d k := by
  induction n with
  | zero =>
    have h0 : scrAt m c 0 hn = firstScr m c ⟨0, hn⟩ := scrAt_first m c ⟨0, hn⟩ rfl
    rw [h0]
    refine ⟨rfl, rfl, fun r d => ?_⟩
    unfold firstScr
    dsimp only
    rw [pass_at m c hg, zeros_at, zero_add]
    simp [Finset.sum_range_succ]
  | succ n ih =>
    by_cases h8 : (n + 1) % 8 = 0
    · have h0 : scrAt m c (n + 1) hn = firstScr m c ⟨n + 1, hn⟩ := scrAt_first m c ⟨n + 1, hn⟩ h8
      rw [h0]
      refine ⟨rfl, rfl, fun r d => ?_⟩
      unfold firstScr
      dsimp only
      rw [pass_at m c hg, zeros_at, zero_add]
      simp [Finset.sum_range_succ, h8]
    · have h0 : scrAt m c (n + 1) hn = nextScr m c ⟨n + 1, hn⟩ (scrAt m c n (by omega)) := scrAt_next m c ⟨n + 1, hn⟩ h8
      obtain ⟨i1, i2, i3⟩ := ih (by omega)
      have hb : blkOf ⟨n, by omega⟩ = blkOf ⟨n + 1, hn⟩ := Fin.ext (by show n / 8 = (n + 1) / 8; omega)
      have b1 : blk1 m c ⟨n, by omega⟩ = blk1 m c ⟨n + 1, hn⟩ := by
        funext j
        obtain ⟨p, q, rfl⟩ : ∃ p q, j = ix2 p q := ⟨j 0, j 1, eq_ix2 j⟩
        rw [blk1_at, blk1_at, hb]
      have b2 : blk2 m c ⟨n, by omega⟩ = blk2 m c ⟨n + 1, hn⟩ := by
        funext j
        obtain ⟨p, q, rfl⟩ : ∃ p q, j = ix2 p q := ⟨j 0, j 1, eq_ix2 j⟩
        rw [blk2_at, blk2_at]
      rw [b1, b2] at i1
      rw [b1] at i2
      rw [h0]
      unfold nextScr
      dsimp only
      refine ⟨i1, i2, fun r d => ?_⟩
      rw [i1, i2, pass_at m c hg, i3, hb]
      rw [show 2 * ((n + 1) % 8) = 2 * (n % 8) + 2 by omega, Finset.sum_range_succ _ (2 * (n % 8) + 2 + 1), Finset.sum_range_succ _ (2 * (n % 8) + 2)]

/-- The residual of layer 0: the token's row plus the mixture times row `s` of the modulation's last gate. -/
def resid (hf : Vec Ideal S36864x1024 .bf16) (gates : Vec Ideal S16x36864 .f32) (wg wu : Vec Ideal S16x1024x512 .f32) (wd : Vec Ideal S16x512x1024 .f32)
    (x1 : Vec Ideal S36864x1024 .f32) (mods : Vec Ideal S2x16x6x1024 .f32) (T : Fin 36864) (s : Fin 16) (d : Fin 1024) : EReal :=
  x1 (ix2 T d) + mods (ix4 0 s 5 d) * moe hf gates wg wu wd T d

/-- The finished rows of a block, entry by entry. -/
theorem rows_at (hg : ∀ e t, (0 : EReal) ≤ gatesOf m c (ix2 e t)) (t : Fin cfg0.N) (h7 : t.val % 8 = 7) (r d : Fin 1024) :
    rowsAt m c t (ix2 r d)
      = resid (m (c.tc.loc main_arg0)) (m (c.tc.loc main_arg1)) (m (c.tc.loc main_arg2)) (m (c.tc.loc main_arg3)) (m (c.tc.loc main_arg4))
          (m (c.tc.loc main_arg5)) (m (c.tc.loc main_arg6)) (tok (blkOf t) r)
          ⟨t.val / 32, by have : cfg0.N = 288 := N_0; have := t.isLt; omega⟩ d := by
  have hs : ∀ d, (scrAt m c t.val t.isLt).1 (ix2 r d)
      = moe (m (c.tc.loc main_arg0)) (m (c.tc.loc main_arg1)) (m (c.tc.loc main_arg2)) (m (c.tc.loc main_arg3)) (m (c.tc.loc main_arg4)) (tok (blkOf t) r) d := by
    intro d
    rw [(scr_at m c hg t.val t.isLt).2.2 r d, h7, ← share_sum]
  unfold rowsAt
  pointwise [k0_pay3, modRow]
  simp only [hs, blk6_at, blk7_at]
  rfl

/-- Row 0 of the modulation is for the prompt's 4096 tokens, and each later row for the next 4096. -/
def rowOf (T : Fin 36864) : Fin 16 := ⟨T.val / 4096, by omega⟩

/-- The result. -/
def result : Vec Ideal S36864x1024 .f32 := fun j =>
  resid (m (c.tc.loc main_arg0)) (m (c.tc.loc main_arg1)) (m (c.tc.loc main_arg2)) (m (c.tc.loc main_arg3)) (m (c.tc.loc main_arg4))
    (m (c.tc.loc main_arg5)) (m (c.tc.loc main_arg6)) (j 0) (rowOf (j 0)) (j 1)

/-- The result's array after the run. -/
theorem result_arr (hg : ∀ e t, (0 : EReal) ≤ gatesOf m c (ix2 e t)) : (dats m 0 c).arrAt 9 (cfgs 0).N = result m c := by
  refine (dats m 0 c).arrAt_eq_of_covers 9 _ (by decide +kernel) fun t hf y => ?_
  blk_simp
  rw [after9]
  obtain ⟨p, q, rfl⟩ : ∃ (p q : Fin 1024), y = ix2 p q := ⟨y 0, y 1, eq_ix2 y⟩
  have ht : t.val < 288 := Nat.lt_of_lt_of_eq t.isLt N_0
  refine (rows_at m c hg (last9 t) (by show (_ + 7) % 8 = 7; omega) p q).trans ?_
  have e0 : (((win0_9.blk t).view.emb (ix2 p q)) 0).val = t.val / 8 * 1024 + p.val := by
    blk_simp [idx9 t]
    try rfl
  have e1 : (((win0_9.blk t).view.emb (ix2 p q)) 1).val = q.val := by
    blk_simp [idx9 t]
    try rfl
  have key : ∀ j : S36864x1024.Idx, (j 0).val = t.val / 8 * 1024 + p.val → (j 1).val = q.val →
      resid (m (c.tc.loc main_arg0)) (m (c.tc.loc main_arg1)) (m (c.tc.loc main_arg2)) (m (c.tc.loc main_arg3)) (m (c.tc.loc main_arg4))
        (m (c.tc.loc main_arg5)) (m (c.tc.loc main_arg6)) (tok (blkOf (last9 t)) p)
        ⟨(last9 t).val / 32, by have : cfg0.N = 288 := N_0; have := (last9 t).isLt; omega⟩ q = result m c j := by
    intro j h0 h1
    have hT : tok (blkOf (last9 t)) p = j 0 := Fin.ext (by
      show (8 * (t.val / 8) + 7) / 8 * 1024 + p.val = (j 0).val
      omega)
    have hs : (⟨(last9 t).val / 32, by have : cfg0.N = 288 := N_0; have := (last9 t).isLt; omega⟩ : Fin 16) = rowOf (j 0) := Fin.ext (by
      show (8 * (t.val / 8) + 7) / 32 = (j 0).val / 4096
      omega)
    have hd : q = j 1 := Fin.ext h1.symm
    unfold result
    rw [hs, hT, hd]
  exact key _ e0 e1

end Cert.Kernel2Ideal.Moe

end
-- ==== Proof.ZeroRef.lean ====
module

public import proofs.«01_k».proof.Proof.Gen.Reference2Ideal.Run
public import proofs.«01_k».proof.Proof.ZeroValue
public import proofs.«01_k».proof.Proof.RefValue

@[expose] public section

set_option maxRecDepth 16384

noncomputable section

/-!
  Layer 0's reference, entry by entry.
-/

namespace Cert.Reference2Ideal.Moe

open Idealize.ShloMosaic Idealize.ShloMosaic.TcCoe
open Cert.Reference2Ideal Cert.Reference2Ideal.Gen
open Cert.KernelIdeal.Moe (term moe)
open Cert.Kernel2Ideal.Moe (resid rowOf)
open Cert.ReferenceIdeal.Moe (ffn_swapped)

/-- The result as the run states it. -/
def composed {F : FTy → Type} [FloatOps F] (m : (ℓ : Loc nD τ sig) → Buf (Elt F) ℓ) (c : Dev nD) : Buf (Elt F) ((c.tc : Thread nD τ).loc main_v26) :=
  shapeCast _ (addf (shapeCast _ (m ((c.tc : Thread nD τ).loc main_arg5)) shapeCasts_S36864x1024_S9x4096x1024) (mulf (broadcastInDim
    S9x4096x1024 ![0, 1, 2] bcast_S9x1x1024_S9x4096x1024_0_1_2 (broadcastInDim S9x1x1024 ![0, 2] bcast_S9x1024_S9x1x1024_0_2
    (shapeCast _ (extractStridedSlice S1x9x1x1024 ![0, 0, 5, 0] (m ((c.tc : Thread nD τ).loc main_arg6))
    slices_S2x16x6x1024_S1x9x1x1024_0_0_5_0) shapeCasts_S1x9x1x1024_S9x1024))) (shapeCast _ (Host.reduceAdd (mulf
    (Host.dotGeneral dot_S16x36864x512_S16x512x1024_S16x36864x1024_2_1_1_2_0_0 none (mulf (mulf (transpose S16x36864x512 [0,
    2, 1] (Host.dotGeneral dot_S16x1024x512_S36864x1024_S16x512x36864_1_1_02_0_n_n none (m ((c.tc : Thread nD τ).loc main_arg2)) (extf .f32
    (m ((c.tc : Thread nD τ).loc main_arg0)) bitsLt_bf16_f32)) transposes_S16x512x36864_S16x36864x512_0_2_1) (Host.divf (broadcastInDim
    S16x36864x512 ![] bcast_S_S16x36864x512 (constant S_ .f32 0x3F800000#32)) (addf (broadcastInDim S16x36864x512 ![]
    bcast_S_S16x36864x512 (constant S_ .f32 0x3F800000#32)) (Host.exp (Host.negf (transpose S16x36864x512 [0, 2, 1]
    (Host.dotGeneral dot_S16x1024x512_S36864x1024_S16x512x36864_1_1_02_0_n_n none (m ((c.tc : Thread nD τ).loc main_arg2)) (extf .f32 (m
    (c.tc.loc main_arg0)) bitsLt_bf16_f32)) transposes_S16x512x36864_S16x36864x512_0_2_1)))))) (transpose S16x36864x512 [0,
    2, 1] (Host.dotGeneral dot_S16x1024x512_S36864x1024_S16x512x36864_1_1_02_0_n_n none (m ((c.tc : Thread nD τ).loc main_arg3)) (extf .f32
    (m ((c.tc : Thread nD τ).loc main_arg0)) bitsLt_bf16_f32)) transposes_S16x512x36864_S16x36864x512_0_2_1)) (m ((c.tc : Thread nD τ).loc main_arg4)))
    (broadcastInDim S16x36864x1024 ![0, 1, 2] bcast_S16x36864x1_S16x36864x1024_0_1_2 (broadcastInDim S16x36864x1 ![0, 1]
    bcast_S16x36864_S16x36864x1_0_1 (m ((c.tc : Thread nD τ).loc main_arg1))))) (constant S_ .f32 0x00000000#32)
    reducesTo_S16x36864x1024_S36864x1024_d0 h_S_) shapeCasts_S36864x1024_S9x4096x1024))) shapeCasts_S9x4096x1024_S36864x1024

/-- The result, entry by entry. -/
theorem result_at (m : (ℓ : Loc nD τ sig) → Buf (Elt Ideal) ℓ) (c : Dev nD) (T : Fin 36864) (d : Fin 1024) : (composed m c : Vec Ideal S36864x1024 .f32) (ix2 T d)
    = resid (m (c.tc.loc main_arg0)) (m (c.tc.loc main_arg1)) (m (c.tc.loc main_arg2)) (m (c.tc.loc main_arg3)) (m (c.tc.loc main_arg4))
        (m (c.tc.loc main_arg5)) (m (c.tc.loc main_arg6)) T (rowOf T) d := by
  unfold composed
  clean_types
  pointwise
  unfold resid moe term
  simp only [ffn_swapped]
  rfl

end Cert.Reference2Ideal.Moe

end
-- ==== Proof.ZeroAlgebraic.lean ====
module

public import proofs.«01_k».proof.Proof.Algebraic
public import proofs.«01_k».proof.Proof.ZeroWhole
public import proofs.«01_k».proof.Proof.ZeroSame
public import proofs.«01_k».proof.Proof.ZeroRef
public import Idealize.ShloMosaic.Lib.ReduceAll
public import Idealize.ShloMosaic.Lib.Claim

@[expose] public section

/-!
  Layer 0's call: the frames of its three programs, and the value claim. Where no routing gate is negative, both the kernel's
  result and the reference's are `resid` of `ZeroValue.lean` at every index: the kernel by `result_arr`, the reference by
  `result_at`.
-/

noncomputable section

namespace Cert.Proof

open Idealize.ShloMosaic Idealize.ShloMosaic.TcCoe Idealize.SL.Sem Idealize.ShloMosaic.Rounds
open Cert.Kernel2Ideal.Moe (gatesOf result)

attribute [local instance] Cert.Kernel2.Gen.facts Cert.Kernel2Ideal.Gen.facts Cert.Reference2Ideal.Gen.facts pre_facts

/-- The kernel's frame: the run of `Kernel2Ideal` at the machine's own floats. -/
theorem frame_kernel2 : Cert.quiescent_Kernel2 := fun m ρ _ => by
  rw [defs2_same, main2_same]
  exact Cert.Kernel2Ideal.Moe.frame_run (F := Bits) m ρ

/-- The idealized kernel's frame. -/
theorem frame_ideal2 : Cert.quiescent_Kernel2Ideal := fun m ρ _ => Cert.Kernel2Ideal.Moe.frame_run (F := Ideal) m ρ

/-- The idealized kernel's frame, under the precondition. -/
theorem frame_ideal2_pre : Cert.quiescent_Kernel2Ideal_pre_gates_nonneg := fun m ρ _ => Cert.Kernel2Ideal.Moe.frame_run (F := Ideal) m ρ

/-- The reference's frame. -/
theorem frame_ref2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The reference's frame, under the precondition. -/
theorem frame_ref2_pre : Cert.quiescent_Reference2Ideal_pre_gates_nonneg := fun m ρ _ => frame_ref2 m ρ trivial

theorem preserves2 : Cert.preserves_Kernel2_Kernel2Ideal := trivial

/-- The precondition says of each gate that it is not negative. -/
theorem gates2_of_pre (m : (ℓ : Loc Cert.Kernel2Ideal.nD Cert.Kernel2Ideal.τ Cert.Kernel2Ideal.sig) → Buf (Elt Ideal) ℓ)
    (h : Cert.Pre_Kernel2Ideal_gates_nonneg m) (c : Dev Cert.Kernel2Ideal.nD) (e : Fin 16) (t : Fin 36864) :
    (0 : EReal) ≤ gatesOf m c (ix2 e t) := by
  have h0 := congrFun (h c) ix0
  unfold Cert.Pre_gates_nonneg.fn at h0
  have h1 := Host.reduce_andi_all _ _ _ _ _ h0 (ix2 e t)
  have h2 : BitVec.ofBool (decide (Ideal.ofBits .f32 0x00000000#32 ≤ gatesOf m c (ix2 e t))) = 1#1 := h1
  have hz : Ideal.ofBits .f32 0x00000000#32 = (0 : EReal) := by pointwise
  rw [hz] at h2
  by_contra hn
  rw [decide_eq_false hn] at h2
  exact absurd h2 (by decide)

/-- The kernel's result is the reference's. -/
theorem algebraic2 : Cert.algebraic_Kernel2Ideal_Reference2Ideal_pre_gates_nonneg := by
  intro m g m' g' hpre hargs
  have hg := gates2_of_pre m hpre
  refine ⟨fun c => result m c, ?_, ?_⟩
  · refine (θ_run _ _ _).mono (fun r h c => ?_) (θ_run_and (Cert.Kernel2Ideal.Moe.run_main m g) (Cert.Kernel2Ideal.Moe.frame_run m g))
    exact ⟨(h.1.out_eq c 9).trans (Cert.Kernel2Ideal.Moe.result_arr m c (hg c)), h.2.1 c⟩
  · refine (θ_run _ _ _).mono (fun r h c => ?_) (Cert.Reference2Ideal.Value.run (F := Ideal) m' g')
    obtain ⟨a0, a1, a2, a3, a4, a5, a6, a7⟩ := hargs c
    refine ⟨(h c).1.trans ?_, (h c).2⟩
    funext j
    obtain ⟨p, q, rfl⟩ : ∃ p q, j = ix2 p q := ⟨j 0, j 1, eq_ix2 j⟩
    refine (Cert.Reference2Ideal.Moe.result_at m' c p q).trans ?_
    rw [a0, a1, a2, a3, a4, a5, a6]
    rfl

end Cert.Proof

end
-- ==== Proof.ProjSpec.lean ====
module

public import proofs.«01_k».proof.Proof.Spec

@[expose] public section

set_option maxRecDepth 16384

noncomputable section

/-!
  A layer's first call as mathematics over the extended reals: the modulated norm of a token's row times a matrix. And the
  reading of a matrix's columns in a given order.
-/

namespace Cert.Proj

open Idealize.ShloMosaic
open Cert.KernelIdeal

/-- Row 0 of the modulation is for the prompt's 4096 tokens, and each later row for the next 4096. -/
def rowOf (T : Fin 36864) : Fin 16 := ⟨T.val / 4096, by omega⟩

section
variable (x : Vec Ideal S36864x1024 .f32) (mods : Vec Ideal S2x16x6x1024 .f32) (nw : Vec Ideal (⟨3, ![2, 2, 1024]⟩ : Shape) .f32)

/-- Layer `l`'s first norm of token `T`, scaled and shifted by row `s` of the modulation. -/
def normed (l : Fin 2) (T : Fin 36864) (s : Fin 16) (k : Fin 1024) : EReal :=
  x (ix2 T k) * Ideal.rsqrt (Ideal.div (∑ q : Fin 1024, x (ix2 T q) * x (ix2 T q)) (Ideal.ofBits .f32 0x44800000#32) + Ideal.ofBits .f32 0x358637BD#32)
    * nw (ix3 l 0 k) * (1 + mods (ix4 l s 1 k)) + mods (ix4 l s 0 k)

/-- Its product with column `j` of a matrix. -/
def proj {N : ℕ} (w : Vec Ideal (⟨3, ![1, 1024, N]⟩ : Shape) .f32) (l : Fin 2) (T : Fin 36864) (j : Fin N) : EReal :=
  ∑ k : Fin 1024, normed x mods nw l T (rowOf T) k * w (ix3 0 k j)

end

section
variable {α : Type}

/-- The columns of a matrix of `N` columns, taken in an order of `B` numbers. -/
abbrev colsDims (K N B : ℕ) (wf : GatherDims.WF ⟨2, ![K, N]⟩ ⟨2, ![B, 1]⟩ ⟨2, ![K, B]⟩ [0] [1] [] [1] [] 1 ![K, 1]) :
    GatherDims ⟨2, ![K, N]⟩ ⟨2, ![B, 1]⟩ ⟨2, ![K, B]⟩ where
  offsetDims := [0]
  collapsedSliceDims := [1]
  operandBatchingDims := []
  startIndicesBatchingDims := []
  startIndexMap := [1]
  indexVectorDim := 1
  sliceSizes := ![K, 1]
  wf := wf

/-- Column `b` of the result is the column that the order's entry `b` names. -/
theorem cols_at {K N B w : ℕ} (wf : GatherDims.WF ⟨2, ![K, N]⟩ ⟨2, ![B, 1]⟩ ⟨2, ![K, B]⟩ [0] [1] [] [1] [] 1 ![K, 1])
    (x : (⟨2, ![K, N]⟩ : Shape).Idx → α) (idx : IVec ⟨2, ![B, 1]⟩ w) (k : Fin K) (b : Fin B) (n : Fin N)
    (hn : (idx (ix2 b 0)).toInt.toNat = n.val) :
    Host.gather (colsDims K N B wf) x idx (ix2 k b) = x (ix2 k n) := by
  unfold Host.gather
  congr 1
  funext a
  refine Fin.ext ?_
  show (colsDims K N B wf).start (ix2 k b) idx a + (colsDims K N B wf).batchCoord (ix2 k b) a + (colsDims K N B wf).offCoord (ix2 k b) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show (0 : Fin 2) ∉ (colsDims K N B wf).startIndexMap from fun h => by simp at h)]
    unfold GatherDims.offCoord
    rw [dif_pos ((GatherDims.mem_sKept _ _).mpr ⟨fun h => by simp at h, List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims K N B wf).startIndexMap from List.mem_singleton.mpr rfl)]
    have hsi : (colsDims K N B wf).siIdx (ix2 k b) ⟨List.idxOf (1 : Fin 2) (colsDims K N B wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    show min (idx (ix2 b 0)).toInt.toNat (N - 1) = n.val
    have := n.isLt
    omega

end

end Cert.Proj

end
-- ==== Proof.ProjReads.lean ====
module

public import proofs.«01_k».proof.Proof.Gen.Kernel3Ideal.Value
public import proofs.«01_k».proof.Proof.ProjSpec
public import Idealize.ShloMosaic.Lib.Pointwise
public import Idealize.ShloMosaic.Lib.IdealHost
public import Idealize.ShloMosaic.Lib.Pipeline.ValueKit

@[expose] public section
set_option maxRecDepth 16384
noncomputable section

/-!
  Layer 0's first call: the kernel's input blocks, entry by entry, in terms of the program's arguments.
-/

namespace Cert.Kernel3Ideal.Proj
open Idealize.ShloMosaic Idealize.ShloMosaic.TcCoe
open Cert.Kernel3Ideal Cert.Kernel3Ideal.Gen
open Cert.Proj (rowOf normed proj cols_at)

variable (m : (ℓ : Loc nD τ sig) → Buf (Elt Ideal) ℓ) (c : Dev nD)

/-! ## Where each window's block sits at a point -/

theorem idx0 : ∀ t : Fin grid0.N, win0_0.index t = ![t.val, 0] := by decide +kernel
theorem idx1 : ∀ t : Fin grid0.N, win0_1.index t = ![0, t.val / 8, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![0, t.val] := by decide +kernel

/-- Token `r` of the block of point `t`. -/
def tok (t : Fin cfg0.N) (r : Fin 512) : Fin 36864 := ⟨t.val * 512 + r.val, by have : cfg0.N = 72 := N_0; have := t.isLt; omega⟩

/-! ## What the program prepares before the kernel -/

/-- The norm's weights. -/
theorem weights_at (k : Fin 1024) : V m c main_v15 (ix2 0 k) = m (c.tc.loc main_arg2) (ix3 0 0 k) := by
  show StableHlo.after (List.flatten [hostOps0]) (fun b => m (c, b)) main_v15 (ix2 0 k) = _
  simp only [hostOps0, List.flatten_cons, List.flatten_nil, List.append_nil, List.cons_append, List.nil_append]
  entry_read
  pointwise

/-- The matrix's first columns. -/
theorem main_at (k : Fin 1024) (j : Fin 5120) : V m c main_v2 (ix2 k j) = m (c.tc.loc main_arg3) (ix3 0 k ⟨j.val, by omega⟩) := by
  show StableHlo.after (List.flatten [hostOps0]) (fun b => m (c, b)) main_v2 (ix2 k j) = _
  simp only [hostOps0, List.flatten_cons, List.flatten_nil, List.append_nil, List.cons_append, List.nil_append]
  entry_read
  pointwise

/-- The order of the last columns. -/
def order (r : Fin 64) : Fin 64 := ⟨r.val / 8 % 2 * 32 + r.val / 16 * 8 + r.val % 8, by omega⟩

/-- As the program has it: a list of numbers, of which those below zero would count from the end. -/
theorem order_eq : ∀ r : Fin 64, (Scalar.select (IntOp.cmpi .slt (lit0 r) 0#32) (IntOp.addi (lit0 r) 64#32) (lit0 r)).toInt.toNat = (order r).val := by
  decide

/-- The matrix's last columns, in that order, transposed. -/
theorem small_at (r : Fin 64) (k : Fin 1024) : V m c main_v12 (ix2 r k) = m (c.tc.loc main_arg3) (ix3 0 k ⟨5120 + (order r).val, by omega⟩) := by
  show StableHlo.after (List.flatten [hostOps0]) (fun b => m (c, b)) main_v12 (ix2 r k) = _
  simp only [hostOps0, List.flatten_cons, List.flatten_nil, List.append_nil, List.cons_append, List.nil_append]
  entry_read
  pointwise
  refine (cols_at gather_S1024x64_S64x1_S1024x64_0_1_n_n_1_1_10241.wf _ _ k r (order r) ?_).trans ?_
  · pointwise
    have e : ∀ z : Fin 64, z = r → (Scalar.select (IntOp.cmpi .slt (lit0 z) 0#32) (IntOp.addi (lit0 z) 64#32) (lit0 z)).toInt.toNat = (order r).val :=
      fun z hz => hz ▸ order_eq r
    exact e _ (Fin.ext (Shape.rowMajor_val_one _))
  · pointwise

/-! ## The blocks, read off the argument arrays -/

theorem blk0_at (t : Fin cfg0.N) (r : Fin 512) (k : Fin 1024) : (iblk m c 0 t : Vec Ideal S512x1024 .f32) (ix2 r k) = m (c.tc.loc main_arg0) (ix2 (tok t r) k) := by
  unfold tok
  blk_ext [iblk, V, idx0 t]

theorem blk1_at (t : Fin cfg0.N) (r : Fin 512) (q : Fin 6) (k : Fin 1024) : (iblk m c 1 t : Vec Ideal S1x1x6x1024 .f32) (ix4 0 0 q k)
    = m (c.tc.loc main_arg1) (ix4 0 (rowOf (tok t r)) q k) := by
  have e : rowOf (tok t r) = ⟨t.val / 8, by have : cfg0.N = 72 := N_0; have := t.isLt; omega⟩ := Fin.ext (by
    show (t.val * 512 + r.val) / 4096 = t.val / 8
    omega)
  rw [e]
  blk_ext [iblk, V, idx1 t]

theorem blk2_at (t : Fin cfg0.N) (k : Fin 1024) : (iblk m c 2 t : Vec Ideal S1x1024 .f32) (ix2 0 k) = m (c.tc.loc main_arg2) (ix3 0 0 k) := by
  rw [← weights_at m c]
  blk_ext [iblk, idx2 t]

theorem blk3_at (t : Fin cfg0.N) (k : Fin 1024) (j : Fin 5120) : (iblk m c 3 t : Vec Ideal S1024x5120 .bf16) (ix2 k j)
    = m (c.tc.loc main_arg3) (ix3 0 k ⟨j.val, by omega⟩) := by
  rw [← main_at m c]
  blk_ext [iblk, idx3 t]

theorem blk4_at (t : Fin cfg0.N) (r : Fin 64) (k : Fin 1024) : (iblk m c 4 t : Vec Ideal S64x1024 .bf16) (ix2 r k)
    = m (c.tc.loc main_arg3) (ix3 0 k ⟨5120 + (order r).val, by omega⟩) := by
  rw [← small_at m c]
  blk_ext [iblk, idx4 t]

end Cert.Kernel3Ideal.Proj
end
-- ==== Proof.ProjValue.lean ====
module

public import proofs.«01_k».proof.Proof.ProjReads

@[expose] public section
set_option maxRecDepth 16384
noncomputable section

/-!
  Layer 0's first call: what a point writes, entry by entry, and the two results.
-/

namespace Cert.Kernel3Ideal.Proj
open Idealize.ShloMosaic Idealize.ShloMosaic.TcCoe
open Cert.Kernel3Ideal Cert.Kernel3Ideal.Gen
open Cert.Proj (rowOf normed proj)

variable (m : (ℓ : Loc nD τ sig) → Buf (Elt Ideal) ℓ) (c : Dev nD)

/-- The block's rows, normed and modulated. -/
def rows (t : Fin cfg0.N) : FVec Ideal S512x1024 .bf16 :=
  k0_pay5 (View.ld (iblk m c 0 t : Vec Ideal S512x1024 .f32) r0_0) (View.ld (iblk m c 2 t : Vec Ideal S1x1024 .f32) r0_1)
    (View.ld (iblk m c 1 t : Vec Ideal S1x1x6x1024 .f32) r0_2) (View.ld (iblk m c 1 t : Vec Ideal S1x1x6x1024 .f32) r0_3)

theorem rows_at (t : Fin cfg0.N) (r : Fin 512) (k : Fin 1024) : rows m c t (ix2 r k)
    = normed (m (c.tc.loc main_arg0)) (m (c.tc.loc main_arg1)) (m (c.tc.loc main_arg2)) 0 (tok t r) (rowOf (tok t r)) k := by
  unfold rows
  pointwise [k0_pay5]
  simp only [blk0_at, blk1_at m c t r, blk2_at]
  rfl

/-- A product with columns `n … n + 1023` of the weights. -/
theorem chunk_at (t : Fin cfg0.N) (w : Vec Ideal S1024x1024 .bf16) (r : Fin 512) (j : Fin 1024) (q : Fin 5120)
    (hw : ∀ k, w (ix2 k j) = (iblk m c 3 t : Vec Ideal S1024x5120 .bf16) (ix2 k q)) :
    k0_pay1 (rows m c t) w (ix2 r j)
      = proj (m (c.tc.loc main_arg0)) (m (c.tc.loc main_arg1)) (m (c.tc.loc main_arg2)) (m (c.tc.loc main_arg3)) 0 (tok t r) (⟨q.val, by omega⟩ : Fin 5184) := by
  pointwise [k0_pay1]
  simp only [rows_at, hw, blk3_at]
  rfl

/-- What a point leaves in the first result's block. -/
theorem first_at (t : Fin cfg0.N) (r : Fin 512) (q : Fin 5120) :
    out0_5 (iblk m c 0 t) (iblk m c 1 t) (iblk m c 2 t) (iblk m c 3 t) (iblk m c 4 t) (ix2 r q)
      = proj (m (c.tc.loc main_arg0)) (m (c.tc.loc main_arg1)) (m (c.tc.loc main_arg2)) (m (c.tc.loc main_arg3)) 0 (tok t r) (⟨q.val, by omega⟩ : Fin 5184) := by
  canon_tiles x h
  all_goals
    obtain ⟨p, j, rfl⟩ : ∃ (p : Fin 512) (j : Fin 1024), x = ix2 p j := ⟨x 0, x 1, eq_ix2 x⟩
    obtain rfl : r = p := Fin.ext h0
    refine chunk_at m c t _ r j q fun k => ?_
    refine View.ld_unit_apply_of _ _ _ _ (ix2 k j) (ix2 k q) fun a => ?_
    match a with
    | ⟨0, _⟩ => exact (Nat.zero_add _).symm
    | ⟨1, _⟩ => first | exact h1 | exact h1.trans (Nat.zero_add _).symm

/-- What a point leaves in the second result's block. -/
theorem last_at (t : Fin cfg0.N) (r : Fin 64) (p : Fin 512) :
    out0_6 (iblk m c 0 t) (iblk m c 1 t) (iblk m c 2 t) (iblk m c 3 t) (iblk m c 4 t) (ix2 r p)
      = proj (m (c.tc.loc main_arg0)) (m (c.tc.loc main_arg1)) (m (c.tc.loc main_arg2)) (m (c.tc.loc main_arg3)) 0 (tok t p) (⟨5120 + (order r).val, by omega⟩ : Fin 5184) := by
  canon_tiles x h
  obtain ⟨r', p', rfl⟩ : ∃ (r' : Fin 64) (p' : Fin 512), x = ix2 r' p' := ⟨x 0, x 1, eq_ix2 x⟩
  obtain rfl : r = r' := Fin.ext h0
  obtain rfl : p = p' := Fin.ext h1
  show k0_pay6 _ _ _ _ _ (ix2 r p) = _
  unfold k0_pay6
  change matmul dot_S64x1024_S512x1024_S64x512_1_1_0_0_n_n none (shapeCast S64x1024 (View.ld (iblk m c 4 t : Vec Ideal S64x1024 .bf16) r0_4) shapeCasts_S64x1024_S64x1024) (rows m c t) (constant S64x512 .f32 0x00000000#32) (ix2 r p) = _
  pointwise
  simp only [rows_at, blk4_at]
  exact Finset.sum_congr rfl fun k _ => mul_comm _ _

/-! ## The results -/

/-- The first result -/
def first : Vec Ideal S36864x5120 .bf16 := fun j =>
  proj (m (c.tc.loc main_arg0)) (m (c.tc.loc main_arg1)) (m (c.tc.loc main_arg2)) (m (c.tc.loc main_arg3)) 0 (j 0) (⟨(j 1).val, Nat.lt_trans (j 1).isLt (by decide)⟩ : Fin 5184)
/-- and the second. -/
def last : Vec Ideal S64x36864 .f32 := fun j =>
  proj (m (c.tc.loc main_arg0)) (m (c.tc.loc main_arg1)) (m (c.tc.loc main_arg2)) (m (c.tc.loc main_arg3)) 0 (j 1) (⟨5120 + (order (j 0)).val, Nat.add_lt_add_left (order (j 0)).isLt 5120⟩ : Fin 5184)

/-- The first result's array after the run. -/
theorem first_arr : (dats m 0 c).arrAt 5 (cfgs 0).N = first m c := by
  refine (dats m 0 c).arrAt_eq_of_covers 5 _ (by decide +kernel) fun t hf y => ?_
  blk_simp
  rw [after0_5]
  obtain ⟨p, q, rfl⟩ : ∃ (p : Fin 512) (q : Fin 5120), y = ix2 p q := ⟨y 0, y 1, eq_ix2 y⟩
  refine (first_at m c t p q).trans ?_
  have e0 : (((win0_5.blk t).view.emb (ix2 p q)) 0).val = t.val * 512 + p.val := by
    blk_simp [idx5 t]
    try rfl
  have e1 : (((win0_5.blk t).view.emb (ix2 p q)) 1).val = q.val := by
    blk_simp [idx5 t]
    try rfl
  have key : ∀ j : S36864x5120.Idx, (j 0).val = t.val * 512 + p.val → (j 1).val = q.val →
      proj (m (c.tc.loc main_arg0)) (m (c.tc.loc main_arg1)) (m (c.tc.loc main_arg2)) (m (c.tc.loc main_arg3)) 0 (tok t p) (⟨q.val, by omega⟩ : Fin 5184)
        = first m c j := by
    intro j h0 h1
    have hT : tok t p = j 0 := Fin.ext h0.symm
    unfold first
    rw [hT]
    exact congrArg _ (Fin.ext h1.symm)
  exact key _ e0 e1

/-- The second result's array after the run. -/
theorem last_arr : (dats m 0 c).arrAt 6 (cfgs 0).N = last m c := by
  refine (dats m 0 c).arrAt_eq_of_covers 6 _ (by decide +kernel) fun t hf y => ?_
  blk_simp
  rw [after0_6]
  obtain ⟨p, q, rfl⟩ : ∃ (p : Fin 64) (q : Fin 512), y = ix2 p q := ⟨y 0, y 1, eq_ix2 y⟩
  refine (last_at m c t p q).trans ?_
  have e0 : (((win0_6.blk t).view.emb (ix2 p q)) 0).val = p.val := by
    blk_simp [idx6 t]
    try rfl
  have e1 : (((win0_6.blk t).view.emb (ix2 p q)) 1).val = t.val * 512 + q.val := by
    blk_simp [idx6 t]
    try rfl
  have key : ∀ j : S64x36864.Idx, (j 0).val = p.val → (j 1).val = t.val * 512 + q.val →
      proj (m (c.tc.loc main_arg0)) (m (c.tc.loc main_arg1)) (m (c.tc.loc main_arg2)) (m (c.tc.loc main_arg3)) 0 (tok t q) (⟨5120 + (order p).val, by omega⟩ : Fin 5184)
        = last m c j := by
    intro j h0 h1
    have hT : tok t q = j 1 := Fin.ext h1.symm
    have hp : p = j 0 := Fin.ext h0.symm
    unfold last
    subst hp
    rw [hT]
  exact key _ e0 e1

end Cert.Kernel3Ideal.Proj
end
-- ==== Proof.ProjRef.lean ====
module

public import proofs.«01_k».proof.Proof.Gen.Reference3Ideal.Run
public import proofs.«01_k».proof.Proof.ProjSpec
public import Idealize.ShloMosaic.Lib.Tactic.CleanTypes

@[expose] public section

set_option maxRecDepth 16384

noncomputable section

/-!
  The reference of layer 0's first call, entry by entry.
-/

namespace Cert.Reference3Ideal.Proj

open Idealize.ShloMosaic Idealize.ShloMosaic.TcCoe
open Cert.Reference3Ideal Cert.Reference3Ideal.Gen
open Cert.Proj (proj normed rowOf)

/-- The reference's norm of all tokens, modulated, times the weights. -/
def product {F : FTy → Type} [FloatOps F] (m : (ℓ : Loc nD τ sig) → Buf (Elt F) ℓ) (c : Dev nD) : Vec F S36864x5184 .f32 :=
  Host.dotGeneral dot_S36864x1024_S1024x5184_S36864x5184_1_0_0_1_n_n none (shapeCast _ (addf (mulf (mulf (mulf
    (shapeCast _ (m ((c.tc : Thread nD τ).loc main_arg0)) shapeCasts_S36864x1024_S9x4096x1024) (broadcastInDim
    S9x4096x1024 ![0, 1, 2] bcast_S9x4096x1_S9x4096x1024_0_1_2 (Host.rsqrt (addf (Host.divf (broadcastInDim S9x4096x1
    ![0, 1] bcast_S9x4096_S9x4096x1_0_1 (Host.reduceAdd (mulf (shapeCast _ (m ((c.tc : Thread nD τ).loc main_arg0))
    shapeCasts_S36864x1024_S9x4096x1024) (shapeCast _ (m ((c.tc : Thread nD τ).loc main_arg0))
    shapeCasts_S36864x1024_S9x4096x1024)) (constant S_ .f32 0x00000000#32) reducesTo_S9x4096x1024_S9x4096_d2 h_S_))
    (broadcastInDim S9x4096x1 ![] bcast_S_S9x4096x1 (constant S_ .f32 0x44800000#32))) (broadcastInDim S9x4096x1 ![]
    bcast_S_S9x4096x1 (constant S_ .f32 0x358637BD#32)))))) (broadcastInDim S9x4096x1024 ![0, 1, 2]
    bcast_S1x1x1024_S9x4096x1024_0_1_2 (broadcastInDim S1x1x1024 ![2] bcast_S1024_S1x1x1024_2 (shapeCast _
    (extractStridedSlice S1x1x1024 ![0, 0, 0] (m ((c.tc : Thread nD τ).loc main_arg2))
    slices_S2x2x1024_S1x1x1024_0_0_0) shapeCasts_S1x1x1024_S1024)))) (broadcastInDim S9x4096x1024 ![0, 1, 2]
    bcast_S9x1x1024_S9x4096x1024_0_1_2 (addf (broadcastInDim S9x1x1024 ![] bcast_S_S9x1x1024 (constant S_ .f32
    0x3F800000#32)) (broadcastInDim S9x1x1024 ![0, 2] bcast_S9x1024_S9x1x1024_0_2 (shapeCast _ (extractStridedSlice
    S9x1x1024 ![0, 1, 0] (shapeCast _ (extractStridedSlice S1x16x6x1024 ![0, 0, 0, 0] (m ((c.tc : Thread nD τ).loc
    main_arg1)) slices_S2x16x6x1024_S1x16x6x1024_0_0_0_0) shapeCasts_S1x16x6x1024_S16x6x1024)
    slices_S16x6x1024_S9x1x1024_0_1_0) shapeCasts_S9x1x1024_S9x1024))))) (broadcastInDim S9x4096x1024 ![0, 1, 2]
    bcast_S9x1x1024_S9x4096x1024_0_1_2 (broadcastInDim S9x1x1024 ![0, 2] bcast_S9x1024_S9x1x1024_0_2 (shapeCast _
    (extractStridedSlice S9x1x1024 ![0, 0, 0] (shapeCast _ (extractStridedSlice S1x16x6x1024 ![0, 0, 0, 0] (m ((c.tc :
    Thread nD τ).loc main_arg1)) slices_S2x16x6x1024_S1x16x6x1024_0_0_0_0) shapeCasts_S1x16x6x1024_S16x6x1024)
    slices_S16x6x1024_S9x1x1024_0_0_0) shapeCasts_S9x1x1024_S9x1024)))) shapeCasts_S9x4096x1024_S36864x1024)
    (shapeCast _ (m ((c.tc : Thread nD τ).loc main_arg3)) shapeCasts_S1x1024x5184_S1024x5184)

variable (m : (ℓ : Loc nD τ sig) → Buf (Elt Ideal) ℓ) (c : Dev nD)

theorem product_at (T : Fin 36864) (j : Fin 5184) : product m c (ix2 T j)
    = proj (m (c.tc.loc main_arg0)) (m (c.tc.loc main_arg1)) (m (c.tc.loc main_arg2)) (m (c.tc.loc main_arg3)) 0 T j := by
  unfold product
  clean_types
  pointwise
  unfold proj normed rowOf
  rfl

/-- The first columns. -/
theorem first_at (T : Fin 36864) (j : Fin 5120) :
    (truncf .bf16 (extractStridedSlice S36864x5120 ![0, 0] (product m c) slices_S36864x5184_S36864x5120_0_0) bitsLt_bf16_f32 : Vec Ideal S36864x5120 .bf16) (ix2 T j)
    = product m c (ix2 T ⟨j.val, by omega⟩) := by
  pointwise

/-- The last columns, by group, direction and head of the group. -/
theorem last_at (r : Fin 64) (T : Fin 36864) :
    (shapeCast S64x36864 (transpose S4x2x8x36864 [2, 1, 3, 0] (shapeCast S36864x2x4x8 (extractStridedSlice S36864x64 ![0, 5120] (product m c)
      slices_S36864x5184_S36864x64_0_5120) shapeCasts_S36864x64_S36864x2x4x8) transposes_S36864x2x4x8_S4x2x8x36864_2_1_3_0)
      shapeCasts_S4x2x8x36864_S64x36864 : Vec Ideal S64x36864 .f32) (ix2 r T)
    = product m c (ix2 T ⟨5120 + (r.val / 8 % 2 * 32 + r.val / 16 * 8 + r.val % 8), by omega⟩) := by
  pointwise

end Cert.Reference3Ideal.Proj

end
-- ==== Proof.ProjAlgebraic.lean ====
module

public import proofs.«01_k».proof.Proof.Gen.Kernel3.Frame
public import proofs.«01_k».proof.Proof.ProjValue
public import proofs.«01_k».proof.Proof.ProjRef
public import proofs.«01_k».proof.Defs
public import Idealize.ShloMosaic.Lib.Claim

@[expose] public section

/-!
  Layer 0's first call: the frames of its three programs, and the value claim. Both the kernel's results and the
  reference's are the products of `ProjSpec.lean` at every index.
-/

noncomputable section

namespace Cert.Proof

open Idealize.ShloMosaic Idealize.ShloMosaic.TcCoe Idealize.SL.Sem
open Cert.Kernel3Ideal.Proj (first last)

attribute [local instance] Cert.Kernel3.Gen.facts Cert.Kernel3Ideal.Gen.facts Cert.Reference3Ideal.Gen.facts

/-- The kernel's frame. -/
theorem frame_kernel3 : Cert.quiescent_Kernel3 := fun m ρ _ => Cert.Kernel3.Gen.frame m ρ

/-- The idealized kernel's frame. -/
theorem frame_ideal3 : Cert.quiescent_Kernel3Ideal := fun m ρ _ => Cert.Kernel3Ideal.Gen.frame m ρ

/-- The reference's frame. -/
theorem frame_ref3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

theorem preserves3 : Cert.preserves_Kernel3_Kernel3Ideal := trivial

/-- The kernel's results are the reference's. -/
theorem algebraic3 : Cert.algebraic_Kernel3Ideal_Reference3Ideal := by
  intro m g m' g' _ hargs
  refine ⟨fun c => first m c, fun c => last m c, ?_, ?_⟩
  · refine (θ_run _ _ _).mono (fun r h c => ?_) (Cert.Kernel3Ideal.Value.run_blocks m g)
    exact ⟨(h c).1.trans (Cert.Kernel3Ideal.Proj.first_arr m c), (h c).2.1.trans (Cert.Kernel3Ideal.Proj.last_arr m c), (h c).2.2⟩
  · refine (θ_run _ _ _).mono (fun r h c => ?_) (Cert.Reference3Ideal.Value.run (F := Ideal) m' g')
    obtain ⟨a0, a1, a2, a3⟩ := hargs c
    refine ⟨(h c).1.trans ?_, (h c).2.1.trans ?_, (h c).2.2⟩
    · funext j
      obtain ⟨p, q, rfl⟩ : ∃ p q, j = ix2 p q := ⟨j 0, j 1, eq_ix2 j⟩
      refine (Cert.Reference3Ideal.Proj.first_at m' c p q).trans ((Cert.Reference3Ideal.Proj.product_at m' c p _).trans ?_)
      rw [a0, a1, a2, a3]
      rfl
    · funext j
      obtain ⟨p, q, rfl⟩ : ∃ p q, j = ix2 p q := ⟨j 0, j 1, eq_ix2 j⟩
      refine (Cert.Reference3Ideal.Proj.last_at m' c p q).trans ((Cert.Reference3Ideal.Proj.product_at m' c q _).trans ?_)
      rw [a0, a1, a2, a3]
      rfl

end Cert.Proof

end
-- ==== Proof.ProjOneReads.lean ====
module

public import proofs.«01_k».proof.Proof.Gen.Kernel4Ideal.Value
public import proofs.«01_k».proof.Proof.ProjSpec
public import Idealize.ShloMosaic.Lib.Pointwise
public import Idealize.ShloMosaic.Lib.IdealHost
public import Idealize.ShloMosaic.Lib.Pipeline.ValueKit

@[expose] public section
set_option maxRecDepth 16384
noncomputable section

/-!
  Layer 1's first call: the kernel's input blocks, entry by entry, in terms of the program's arguments.
-/

namespace Cert.Kernel4Ideal.Proj
open Idealize.ShloMosaic Idealize.ShloMosaic.TcCoe
open Cert.Kernel4Ideal Cert.Kernel4Ideal.Gen
open Cert.Proj (rowOf normed proj cols_at)

variable (m : (ℓ : Loc nD τ sig) → Buf (Elt Ideal) ℓ) (c : Dev nD)

/-! ## Where each window's block sits at a point -/

theorem idx0 : ∀ t : Fin grid0.N, win0_0.index t = ![t.val, 0] := by decide +kernel
theorem idx1 : ∀ t : Fin grid0.N, win0_1.index t = ![1, t.val / 8, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![0, t.val] := by decide +kernel

/-- Token `r` of the block of point `t`. -/
def tok (t : Fin cfg0.N) (r : Fin 512) : Fin 36864 := ⟨t.val * 512 + r.val, by have : cfg0.N = 72 := N_0; have := t.isLt; omega⟩

/-! ## What the program prepares before the kernel -/

/-- The norm's weights. -/
theorem weights_at (k : Fin 1024) : V m c main_v15 (ix2 0 k) = m (c.tc.loc main_arg2) (ix3 1 0 k) := by
  show StableHlo.after (List.flatten [hostOps0]) (fun b => m (c, b)) main_v15 (ix2 0 k) = _
  simp only [hostOps0, List.flatten_cons, List.flatten_nil, List.append_nil, List.cons_append, List.nil_append]
  entry_read
  pointwise

/-- The matrix's first columns. -/
theorem main_at (k : Fin 1024) (j : Fin 6144) : V m c main_v2 (ix2 k j) = m (c.tc.loc main_arg3) (ix3 0 k ⟨j.val, by omega⟩) := by
  show StableHlo.after (List.flatten [hostOps0]) (fun b => m (c, b)) main_v2 (ix2 k j) = _
  simp only [hostOps0, List.flatten_cons, List.flatten_nil, List.append_nil, List.cons_append, List.nil_append]
  entry_read
  pointwise

/-- The order of the last columns. -/
def order (r : Fin 64) : Fin 64 := ⟨r.val / 2 % 2 * 32 + r.val / 4 % 2 * 16 + r.val / 8 * 2 + r.val % 2, by omega⟩

/-- As the program has it: a list of numbers, of which those below zero would count from the end. -/
theorem order_eq : ∀ r : Fin 64, (Scalar.select (IntOp.cmpi .slt (lit0 r) 0#32) (IntOp.addi (lit0 r) 64#32) (lit0 r)).toInt.toNat = (order r).val := by
  decide

/-- The matrix's last columns, in that order, transposed. -/
theorem small_at (r : Fin 64) (k : Fin 1024) : V m c main_v12 (ix2 r k) = m (c.tc.loc main_arg3) (ix3 0 k ⟨6144 + (order r).val, by omega⟩) := by
  show StableHlo.after (List.flatten [hostOps0]) (fun b => m (c, b)) main_v12 (ix2 r k) = _
  simp only [hostOps0, List.flatten_cons, List.flatten_nil, List.append_nil, List.cons_append, List.nil_append]
  entry_read
  pointwise
  refine (cols_at gather_S1024x64_S64x1_S1024x64_0_1_n_n_1_1_10241.wf _ _ k r (order r) ?_).trans ?_
  · pointwise
    have e : ∀ z : Fin 64, z = r → (Scalar.select (IntOp.cmpi .slt (lit0 z) 0#32) (IntOp.addi (lit0 z) 64#32) (lit0 z)).toInt.toNat = (order r).val :=
      fun z hz => hz ▸ order_eq r
    exact e _ (Fin.ext (Shape.rowMajor_val_one _))
  · pointwise

/-! ## The blocks, read off the argument arrays -/

theorem blk0_at (t : Fin cfg0.N) (r : Fin 512) (k : Fin 1024) : (iblk m c 0 t : Vec Ideal S512x1024 .f32) (ix2 r k) = m (c.tc.loc main_arg0) (ix2 (tok t r) k) := by
  unfold tok
  blk_ext [iblk, V, idx0 t]

theorem blk1_at (t : Fin cfg0.N) (r : Fin 512) (q : Fin 6) (k : Fin 1024) : (iblk m c 1 t : Vec Ideal S1x1x6x1024 .f32) (ix4 0 0 q k)
    = m (c.tc.loc main_arg1) (ix4 1 (rowOf (tok t r)) q k) := by
  have e : rowOf (tok t r) = ⟨t.val / 8, by have : cfg0.N = 72 := N_0; have := t.isLt; omega⟩ := Fin.ext (by
    show (t.val * 512 + r.val) / 4096 = t.val / 8
    omega)
  rw [e]
  blk_ext [iblk, V, idx1 t]

theorem blk2_at (t : Fin cfg0.N) (k : Fin 1024) : (iblk m c 2 t : Vec Ideal S1x1024 .f32) (ix2 0 k) = m (c.tc.loc main_arg2) (ix3 1 0 k) := by
  rw [← weights_at m c]
  blk_ext [iblk, idx2 t]

theorem blk3_at (t : Fin cfg0.N) (k : Fin 1024) (j : Fin 6144) : (iblk m c 3 t : Vec Ideal S1024x6144 .bf16) (ix2 k j)
    = m (c.tc.loc main_arg3) (ix3 0 k ⟨j.val, by omega⟩) := by
  rw [← main_at m c]
  blk_ext [iblk, idx3 t]

theorem blk4_at (t : Fin cfg0.N) (r : Fin 64) (k : Fin 1024) : (iblk m c 4 t : Vec Ideal S64x1024 .bf16) (ix2 r k)
    = m (c.tc.loc main_arg3) (ix3 0 k ⟨6144 + (order r).val, by omega⟩) := by
  rw [← small_at m c]
  blk_ext [iblk, idx4 t]

end Cert.Kernel4Ideal.Proj
end
-- ==== Proof.ProjOneValue.lean ====
module

public import proofs.«01_k».proof.Proof.ProjOneReads

@[expose] public section
set_option maxRecDepth 16384
noncomputable section

/-!
  Layer 1's first call: what a point writes, entry by entry, and the two results.
-/

namespace Cert.Kernel4Ideal.Proj
open Idealize.ShloMosaic Idealize.ShloMosaic.TcCoe
open Cert.Kernel4Ideal Cert.Kernel4Ideal.Gen
open Cert.Proj (rowOf normed proj)

variable (m : (ℓ : Loc nD τ sig) → Buf (Elt Ideal) ℓ) (c : Dev nD)

/-- The block's rows, normed and modulated. -/
def rows (t : Fin cfg0.N) : FVec Ideal S512x1024 .bf16 :=
  k0_pay1 (View.ld (iblk m c 0 t : Vec Ideal S512x1024 .f32) r0_0) (View.ld (iblk m c 2 t : Vec Ideal S1x1024 .f32) r0_1)
    (View.ld (iblk m c 1 t : Vec Ideal S1x1x6x1024 .f32) r0_2) (View.ld (iblk m c 1 t : Vec Ideal S1x1x6x1024 .f32) r0_3)

theorem rows_at (t : Fin cfg0.N) (r : Fin 512) (k : Fin 1024) : rows m c t (ix2 r k)
    = normed (m (c.tc.loc main_arg0)) (m (c.tc.loc main_arg1)) (m (c.tc.loc main_arg2)) 1 (tok t r) (rowOf (tok t r)) k := by
  unfold rows
  pointwise [k0_pay1]
  simp only [blk0_at, blk1_at m c t r, blk2_at]
  rfl

/-- A product with columns `n … n + 1023` of the weights. -/
theorem chunk_at (t : Fin cfg0.N) (w : Vec Ideal S1024x1024 .bf16) (r : Fin 512) (j : Fin 1024) (q : Fin 6144)
    (hw : ∀ k, w (ix2 k j) = (iblk m c 3 t : Vec Ideal S1024x6144 .bf16) (ix2 k q)) :
    k0_pay4 (rows m c t) w (ix2 r j)
      = proj (m (c.tc.loc main_arg0)) (m (c.tc.loc main_arg1)) (m (c.tc.loc main_arg2)) (m (c.tc.loc main_arg3)) 1 (tok t r) (⟨q.val, by omega⟩ : Fin 6208) := by
  pointwise [k0_pay4]
  simp only [rows_at, hw, blk3_at]
  rfl

/-- What a point leaves in the first result's block. -/
theorem first_at (t : Fin cfg0.N) (r : Fin 512) (q : Fin 6144) :
    out0_5 (iblk m c 0 t) (iblk m c 1 t) (iblk m c 2 t) (iblk m c 3 t) (iblk m c 4 t) (ix2 r q)
      = proj (m (c.tc.loc main_arg0)) (m (c.tc.loc main_arg1)) (m (c.tc.loc main_arg2)) (m (c.tc.loc main_arg3)) 1 (tok t r) (⟨q.val, by omega⟩ : Fin 6208) := by
  canon_tiles x h
  all_goals
    obtain ⟨p, j, rfl⟩ : ∃ (p : Fin 512) (j : Fin 1024), x = ix2 p j := ⟨x 0, x 1, eq_ix2 x⟩
    obtain rfl : r = p := Fin.ext h0
    refine chunk_at m c t _ r j q fun k => ?_
    refine View.ld_unit_apply_of _ _ _ _ (ix2 k j) (ix2 k q) fun a => ?_
    match a with
    | ⟨0, _⟩ => exact (Nat.zero_add _).symm
    | ⟨1, _⟩ => first | exact h1 | exact h1.trans (Nat.zero_add _).symm

/-- What a point leaves in the second result's block. -/
theorem last_at (t : Fin cfg0.N) (r : Fin 64) (p : Fin 512) :
    out0_6 (iblk m c 0 t) (iblk m c 1 t) (iblk m c 2 t) (iblk m c 3 t) (iblk m c 4 t) (ix2 r p)
      = proj (m (c.tc.loc main_arg0)) (m (c.tc.loc main_arg1)) (m (c.tc.loc main_arg2)) (m (c.tc.loc main_arg3)) 1 (tok t p) (⟨6144 + (order r).val, by omega⟩ : Fin 6208) := by
  canon_tiles x h
  obtain ⟨r', p', rfl⟩ : ∃ (r' : Fin 64) (p' : Fin 512), x = ix2 r' p' := ⟨x 0, x 1, eq_ix2 x⟩
  obtain rfl : r = r' := Fin.ext h0
  obtain rfl : p = p' := Fin.ext h1
  show k0_pay2 _ _ _ _ _ (ix2 r p) = _
  unfold k0_pay2
  change matmul dot_S64x1024_S512x1024_S64x512_1_1_0_0_n_n none (shapeCast S64x1024 (View.ld (iblk m c 4 t : Vec Ideal S64x1024 .bf16) r0_4) shapeCasts_S64x1024_S64x1024) (rows m c t) (constant S64x512 .f32 0x00000000#32) (ix2 r p) = _
  pointwise
  simp only [rows_at, blk4_at]
  exact Finset.sum_congr rfl fun k _ => mul_comm _ _

/-! ## The results -/

/-- The first result -/
def first : Vec Ideal S36864x6144 .bf16 := fun j =>
  proj (m (c.tc.loc main_arg0)) (m (c.tc.loc main_arg1)) (m (c.tc.loc main_arg2)) (m (c.tc.loc main_arg3)) 1 (j 0) (⟨(j 1).val, Nat.lt_trans (j 1).isLt (by decide)⟩ : Fin 6208)
/-- and the second. -/
def last : Vec Ideal S64x36864 .f32 := fun j =>
  proj (m (c.tc.loc main_arg0)) (m (c.tc.loc main_arg1)) (m (c.tc.loc main_arg2)) (m (c.tc.loc main_arg3)) 1 (j 1) (⟨6144 + (order (j 0)).val, Nat.add_lt_add_left (order (j 0)).isLt 6144⟩ : Fin 6208)

/-- The first result's array after the run. -/
theorem first_arr : (dats m 0 c).arrAt 5 (cfgs 0).N = first m c := by
  refine (dats m 0 c).arrAt_eq_of_covers 5 _ (by decide +kernel) fun t hf y => ?_
  blk_simp
  rw [after0_5]
  obtain ⟨p, q, rfl⟩ : ∃ (p : Fin 512) (q : Fin 6144), y = ix2 p q := ⟨y 0, y 1, eq_ix2 y⟩
  refine (first_at m c t p q).trans ?_
  have e0 : (((win0_5.blk t).view.emb (ix2 p q)) 0).val = t.val * 512 + p.val := by
    blk_simp [idx5 t]
    try rfl
  have e1 : (((win0_5.blk t).view.emb (ix2 p q)) 1).val = q.val := by
    blk_simp [idx5 t]
    try rfl
  have key : ∀ j : S36864x6144.Idx, (j 0).val = t.val * 512 + p.val → (j 1).val = q.val →
      proj (m (c.tc.loc main_arg0)) (m (c.tc.loc main_arg1)) (m (c.tc.loc main_arg2)) (m (c.tc.loc main_arg3)) 1 (tok t p) (⟨q.val, by omega⟩ : Fin 6208)
        = first m c j := by
    intro j h0 h1
    have hT : tok t p = j 0 := Fin.ext h0.symm
    unfold first
    rw [hT]
    exact congrArg _ (Fin.ext h1.symm)
  exact key _ e0 e1

/-- The second result's array after the run. -/
theorem last_arr : (dats m 0 c).arrAt 6 (cfgs 0).N = last m c := by
  refine (dats m 0 c).arrAt_eq_of_covers 6 _ (by decide +kernel) fun t hf y => ?_
  blk_simp
  rw [after0_6]
  obtain ⟨p, q, rfl⟩ : ∃ (p : Fin 64) (q : Fin 512), y = ix2 p q := ⟨y 0, y 1, eq_ix2 y⟩
  refine (last_at m c t p q).trans ?_
  have e0 : (((win0_6.blk t).view.emb (ix2 p q)) 0).val = p.val := by
    blk_simp [idx6 t]
    try rfl
  have e1 : (((win0_6.blk t).view.emb (ix2 p q)) 1).val = t.val * 512 + q.val := by
    blk_simp [idx6 t]
    try rfl
  have key : ∀ j : S64x36864.Idx, (j 0).val = p.val → (j 1).val = t.val * 512 + q.val →
      proj (m (c.tc.loc main_arg0)) (m (c.tc.loc main_arg1)) (m (c.tc.loc main_arg2)) (m (c.tc.loc main_arg3)) 1 (tok t q) (⟨6144 + (order p).val, by omega⟩ : Fin 6208)
        = last m c j := by
    intro j h0 h1
    have hT : tok t q = j 1 := Fin.ext h1.symm
    have hp : p = j 0 := Fin.ext h0.symm
    unfold last
    subst hp
    rw [hT]
  exact key _ e0 e1

end Cert.Kernel4Ideal.Proj
end
-- ==== Proof.ProjOneRef.lean ====
module

public import proofs.«01_k».proof.Proof.Gen.Reference4Ideal.Run
public import proofs.«01_k».proof.Proof.ProjSpec
public import Idealize.ShloMosaic.Lib.Tactic.CleanTypes

@[expose] public section

set_option maxRecDepth 16384

noncomputable section

/-!
  The reference of layer 1's first call, entry by entry.
-/

namespace Cert.Reference4Ideal.Proj

open Idealize.ShloMosaic Idealize.ShloMosaic.TcCoe
open Cert.Reference4Ideal Cert.Reference4Ideal.Gen
open Cert.Proj (proj normed rowOf)

/-- The reference's norm of all tokens, modulated, times the weights. -/
def product {F : FTy → Type} [FloatOps F] (m : (ℓ : Loc nD τ sig) → Buf (Elt F) ℓ) (c : Dev nD) : Vec F S36864x6208 .f32 :=
  Host.dotGeneral dot_S36864x1024_S1024x6208_S36864x6208_1_0_0_1_n_n none (shapeCast _ (addf (mulf (mulf (mulf
    (shapeCast _ (m ((c.tc : Thread nD τ).loc main_arg0)) shapeCasts_S36864x1024_S9x4096x1024) (broadcastInDim
    S9x4096x1024 ![0, 1, 2] bcast_S9x4096x1_S9x4096x1024_0_1_2 (Host.rsqrt (addf (Host.divf (broadcastInDim S9x4096x1
    ![0, 1] bcast_S9x4096_S9x4096x1_0_1 (Host.reduceAdd (mulf (shapeCast _ (m ((c.tc : Thread nD τ).loc main_arg0))
    shapeCasts_S36864x1024_S9x4096x1024) (shapeCast _ (m ((c.tc : Thread nD τ).loc main_arg0))
    shapeCasts_S36864x1024_S9x4096x1024)) (constant S_ .f32 0x00000000#32) reducesTo_S9x4096x1024_S9x4096_d2 h_S_))
    (broadcastInDim S9x4096x1 ![] bcast_S_S9x4096x1 (constant S_ .f32 0x44800000#32))) (broadcastInDim S9x4096x1 ![]
    bcast_S_S9x4096x1 (constant S_ .f32 0x358637BD#32)))))) (broadcastInDim S9x4096x1024 ![0, 1, 2]
    bcast_S1x1x1024_S9x4096x1024_0_1_2 (broadcastInDim S1x1x1024 ![2] bcast_S1024_S1x1x1024_2 (shapeCast _
    (extractStridedSlice S1x1x1024 ![1, 0, 0] (m ((c.tc : Thread nD τ).loc main_arg2))
    slices_S2x2x1024_S1x1x1024_1_0_0) shapeCasts_S1x1x1024_S1024)))) (broadcastInDim S9x4096x1024 ![0, 1, 2]
    bcast_S9x1x1024_S9x4096x1024_0_1_2 (addf (broadcastInDim S9x1x1024 ![] bcast_S_S9x1x1024 (constant S_ .f32
    0x3F800000#32)) (broadcastInDim S9x1x1024 ![0, 2] bcast_S9x1024_S9x1x1024_0_2 (shapeCast _ (extractStridedSlice
    S9x1x1024 ![0, 1, 0] (shapeCast _ (extractStridedSlice S1x16x6x1024 ![1, 0, 0, 0] (m ((c.tc : Thread nD τ).loc
    main_arg1)) slices_S2x16x6x1024_S1x16x6x1024_1_0_0_0) shapeCasts_S1x16x6x1024_S16x6x1024)
    slices_S16x6x1024_S9x1x1024_0_1_0) shapeCasts_S9x1x1024_S9x1024))))) (broadcastInDim S9x4096x1024 ![0, 1, 2]
    bcast_S9x1x1024_S9x4096x1024_0_1_2 (broadcastInDim S9x1x1024 ![0, 2] bcast_S9x1024_S9x1x1024_0_2 (shapeCast _
    (extractStridedSlice S9x1x1024 ![0, 0, 0] (shapeCast _ (extractStridedSlice S1x16x6x1024 ![1, 0, 0, 0] (m ((c.tc :
    Thread nD τ).loc main_arg1)) slices_S2x16x6x1024_S1x16x6x1024_1_0_0_0) shapeCasts_S1x16x6x1024_S16x6x1024)
    slices_S16x6x1024_S9x1x1024_0_0_0) shapeCasts_S9x1x1024_S9x1024)))) shapeCasts_S9x4096x1024_S36864x1024)
    (shapeCast _ (m ((c.tc : Thread nD τ).loc main_arg3)) shapeCasts_S1x1024x6208_S1024x6208)

variable (m : (ℓ : Loc nD τ sig) → Buf (Elt Ideal) ℓ) (c : Dev nD)

theorem product_at (T : Fin 36864) (j : Fin 6208) : product m c (ix2 T j)
    = proj (m (c.tc.loc main_arg0)) (m (c.tc.loc main_arg1)) (m (c.tc.loc main_arg2)) (m (c.tc.loc main_arg3)) 1 T j := by
  unfold product
  clean_types
  pointwise
  unfold proj normed rowOf
  rfl

/-- The first columns. -/
theorem first_at (T : Fin 36864) (j : Fin 6144) :
    (truncf .bf16 (extractStridedSlice S36864x6144 ![0, 0] (product m c) slices_S36864x6208_S36864x6144_0_0) bitsLt_bf16_f32 : Vec Ideal S36864x6144 .bf16) (ix2 T j)
    = product m c (ix2 T ⟨j.val, by omega⟩) := by
  pointwise

/-- The last columns, by key head, kind of gate, direction and value head. -/
theorem last_at (r : Fin 64) (T : Fin 36864) :
    (shapeCast S64x36864 (transpose S8x2x2x2x36864 [3, 2, 1, 4, 0] (shapeCast S36864x2x2x8x2 (extractStridedSlice S36864x64 ![0, 6144] (product m c)
      slices_S36864x6208_S36864x64_0_6144) shapeCasts_S36864x64_S36864x2x2x8x2) transposes_S36864x2x2x8x2_S8x2x2x2x36864_3_2_1_4_0)
      shapeCasts_S8x2x2x2x36864_S64x36864 : Vec Ideal S64x36864 .f32) (ix2 r T)
    = product m c (ix2 T ⟨6144 + (r.val / 2 % 2 * 32 + r.val / 4 % 2 * 16 + r.val / 8 * 2 + r.val % 2), by omega⟩) := by
  pointwise

end Cert.Reference4Ideal.Proj

end
-- ==== Proof.ProjOneAlgebraic.lean ====
module

public import proofs.«01_k».proof.Proof.Gen.Kernel4.Frame
public import proofs.«01_k».proof.Proof.ProjOneValue
public import proofs.«01_k».proof.Proof.ProjOneRef
public import proofs.«01_k».proof.Defs
public import Idealize.ShloMosaic.Lib.Claim

@[expose] public section

/-!
  Layer 1's first call: the frames of its three programs, and the value claim. Both the kernel's results and the
  reference's are the products of `ProjSpec.lean` at every index.
-/

noncomputable section

namespace Cert.Proof

open Idealize.ShloMosaic Idealize.ShloMosaic.TcCoe Idealize.SL.Sem
open Cert.Kernel4Ideal.Proj (first last)

attribute [local instance] Cert.Kernel4.Gen.facts Cert.Kernel4Ideal.Gen.facts Cert.Reference4Ideal.Gen.facts

/-- The kernel's frame. -/
theorem frame_kernel4 : Cert.quiescent_Kernel4 := fun m ρ _ => Cert.Kernel4.Gen.frame m ρ

/-- The idealized kernel's frame. -/
theorem frame_ideal4 : Cert.quiescent_Kernel4Ideal := fun m ρ _ => Cert.Kernel4Ideal.Gen.frame m ρ

/-- The reference's frame. -/
theorem frame_ref4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

theorem preserves4 : Cert.preserves_Kernel4_Kernel4Ideal := trivial

/-- The kernel's results are the reference's. -/
theorem algebraic4 : Cert.algebraic_Kernel4Ideal_Reference4Ideal := by
  intro m g m' g' _ hargs
  refine ⟨fun c => first m c, fun c => last m c, ?_, ?_⟩
  · refine (θ_run _ _ _).mono (fun r h c => ?_) (Cert.Kernel4Ideal.Value.run_blocks m g)
    exact ⟨(h c).1.trans (Cert.Kernel4Ideal.Proj.first_arr m c), (h c).2.1.trans (Cert.Kernel4Ideal.Proj.last_arr m c), (h c).2.2⟩
  · refine (θ_run _ _ _).mono (fun r h c => ?_) (Cert.Reference4Ideal.Value.run (F := Ideal) m' g')
    obtain ⟨a0, a1, a2, a3⟩ := hargs c
    refine ⟨(h c).1.trans ?_, (h c).2.1.trans ?_, (h c).2.2⟩
    · funext j
      obtain ⟨p, q, rfl⟩ : ∃ p q, j = ix2 p q := ⟨j 0, j 1, eq_ix2 j⟩
      refine (Cert.Reference4Ideal.Proj.first_at m' c p q).trans ((Cert.Reference4Ideal.Proj.product_at m' c p _).trans ?_)
      rw [a0, a1, a2, a3]
      rfl
    · funext j
      obtain ⟨p, q, rfl⟩ : ∃ p q, j = ix2 p q := ⟨j 0, j 1, eq_ix2 j⟩
      refine (Cert.Reference4Ideal.Proj.last_at m' c p q).trans ((Cert.Reference4Ideal.Proj.product_at m' c q _).trans ?_)
      rw [a0, a1, a2, a3]
      rfl

end Cert.Proof

end
-- ==== Proof.AdaValue.lean ====
module

public import proofs.«01_k».proof.Proof.Gen.Kernel5Ideal.Value
public import proofs.«01_k».proof.Proof.Gen.Reference5Ideal.Run
public import proofs.«01_k».proof.Proof.Spec
public import Idealize.ShloMosaic.Lib.Pointwise
public import Idealize.ShloMosaic.Lib.IdealHost
public import Idealize.ShloMosaic.Lib.Pipeline.ValueKit
public import Idealize.ShloMosaic.Lib.Tactic.CleanTypes

@[expose] public section
set_option maxRecDepth 16384
noncomputable section

/-!
  The call that makes the modulation rows: what it and its reference compute, entry by entry.
-/

namespace Cert.Ada
open Idealize.ShloMosaic Idealize.ShloMosaic.TcCoe

/-- Row `r` of the conditions through the gate `x · σ(x)`, times layer `l`'s weights, plus its bias. -/
def modRow (cond : Vec Ideal (⟨2, ![16, 1024]⟩ : Shape) .f32) (w : Vec Ideal (⟨3, ![2, 1024, 6144]⟩ : Shape) .f32)
    (b : Vec Ideal (⟨2, ![2, 6144]⟩ : Shape) .f32) (l : Fin 2) (r : Fin 16) (n : Fin 6144) : EReal :=
  (∑ k : Fin 1024, cond (ix2 r k) * Ideal.logistic (cond (ix2 r k)) * w (ix3 l k n)) + b (ix2 l n)

end Cert.Ada

namespace Cert.Kernel5Ideal.Ada
open Idealize.ShloMosaic Idealize.ShloMosaic.TcCoe
open Cert.Kernel5Ideal Cert.Kernel5Ideal.Gen
open Cert.Ada (modRow)

variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![t.val / 6, 0, t.val % 6] := by decide +kernel
theorem idx2 : ∀ t : Fin grid0.N, win0_2.index t = ![t.val / 6, 0, t.val % 6] := by decide +kernel
theorem idx3 : ∀ t : Fin grid0.N, win0_3.index t = ![t.val / 6, 0, t.val % 6] := by decide +kernel

/-- The layer of point `t`, -/
def layer (t : Fin cfg0.N) : Fin 2 := ⟨t.val / 6, by have : cfg0.N = 12 := N_0; have := t.isLt; omega⟩
/-- and column `n` of its block. -/
def col (t : Fin cfg0.N) (n : Fin 1024) : Fin 6144 := ⟨t.val % 6 * 1024 + n.val, by omega⟩

/-- The conditions: the prompt's, the samples', and rows of zeros. -/
def cond {F : FTy → Type} [FloatOps F] (m : (ℓ : Loc nD τ sig) → Buf (Elt F) ℓ) (c : Dev nD) : Vec F S16x1024 .f32 :=
  concatenate S16x1024 0 [⟨S1x1024, ((broadcastInDim S1x1024 ![1] bcast_S1024_S1x1024_1 (m ((c.tc : Thread nD τ).loc main_arg1))) : (⟨S1x1024, .f32⟩ : BufTy).Contents (Elt F))⟩,
    ⟨S8x1024, ((m ((c.tc : Thread nD τ).loc main_arg0)) : (⟨S8x1024, .f32⟩ : BufTy).Contents (Elt F))⟩,
    ⟨S7x1024, ((broadcastInDim S7x1024 ![] bcast_S_S7x1024 (constant S_ .f32 0x00000000#32)) : (⟨S7x1024, .f32⟩ : BufTy).Contents (Elt F))⟩]
    concatenates_S1x1024_S8x1024_S7x1024_S16x1024_d0

theorem cond_eq : V m c main_v2 = cond m c := by
  show StableHlo.after hostOps0 (fun b => m (c, b)) main_v2 = _
  after_results <;> rfl

/-- The bias. -/
theorem bias_at (l : Fin 2) (n : Fin 6144) : V m c main_v3 (ix3 l 0 n) = m (c.tc.loc main_arg3) (ix2 l n) := by
  show StableHlo.after (List.flatten [hostOps0]) (fun b => m (c, b)) main_v3 (ix3 l 0 n) = _
  simp only [hostOps0, List.flatten_cons, List.flatten_nil, List.append_nil, List.cons_append, List.nil_append]
  entry_read
  pointwise

theorem blk0_at (t : Fin cfg0.N) (r : Fin 16) (k : Fin 1024) : (iblk m c 0 t : Vec Ideal S16x1024 .f32) (ix2 r k) = cond m c (ix2 r k) := by
  rw [← cond_eq m c]
  blk_ext [iblk, idx0 t]

theorem blk1_at (t : Fin cfg0.N) (k n : Fin 1024) : (iblk m c 1 t : Vec Ideal S1x1024x1024 .f32) (ix3 0 k n)
    = m (c.tc.loc main_arg2) (ix3 (layer t) k (col t n)) := by
  unfold layer col
  blk_ext [iblk, V, idx1 t]

theorem blk2_at (t : Fin cfg0.N) (n : Fin 1024) : (iblk m c 2 t : Vec Ideal S1x1x1024 .f32) (ix3 0 0 n)
    = m (c.tc.loc main_arg3) (ix2 (layer t) (col t n)) := by
  rw [← bias_at m c]
  unfold layer col
  blk_ext [iblk, idx2 t]

/-- What a point leaves in the result's block. -/
theorem block_at (t : Fin cfg0.N) (r : Fin 16) (n : Fin 1024) :
    out0_3 (iblk m c 0 t) (iblk m c 1 t) (iblk m c 2 t) (ix3 0 r n)
      = modRow (cond m c) (m (c.tc.loc main_arg2)) (m (c.tc.loc main_arg3)) (layer t) r (col t n) := by
  canon_tiles x h
  obtain ⟨z, p, q, rfl⟩ : ∃ (z : Fin 1) (p : Fin 16) (q : Fin 1024), x = ix3 z p q := ⟨x 0, x 1, x 2, eq_ix3 x⟩
  obtain rfl : z = 0 := Subsingleton.elim _ _
  obtain rfl : r = p := Fin.ext h1
  obtain rfl : n = q := Fin.ext h2
  pointwise [k0_pay1]
  simp only [blk0_at, blk1_at, blk2_at]
  rfl

/-- The result. -/
def rows : Vec Ideal S2x16x6144 .f32 := fun j =>
  modRow (cond m c) (m (c.tc.loc main_arg2)) (m (c.tc.loc main_arg3)) (j 0) (j 1) (j 2)

/-- The result's array after the run. -/
theorem rows_arr : (dats m 0 c).arrAt 3 (cfgs 0).N = rows m c := by
  refine (dats m 0 c).arrAt_eq_of_covers 3 _ (by decide +kernel) fun t hf y => ?_
  blk_simp
  rw [after0_3]
  obtain ⟨z, p, q, rfl⟩ : ∃ (z : Fin 1) (p : Fin 16) (q : Fin 1024), y = ix3 z p q := ⟨y 0, y 1, y 2, eq_ix3 y⟩
  obtain rfl : z = 0 := Subsingleton.elim _ _
  refine (block_at m c t p q).trans ?_
  have e0 : (((win0_3.blk t).view.emb (ix3 0 p q)) 0).val = t.val / 6 := by
    blk_simp [idx3 t]
    try rfl
  have e1 : (((win0_3.blk t).view.emb (ix3 0 p q)) 1).val = p.val := by
    blk_simp [idx3 t]
    try rfl
  have e2 : (((win0_3.blk t).view.emb (ix3 0 p q)) 2).val = t.val % 6 * 1024 + q.val := by
    blk_simp [idx3 t]
    try rfl
  have key : ∀ j : S2x16x6144.Idx, (j 0).val = t.val / 6 → (j 1).val = p.val → (j 2).val = t.val % 6 * 1024 + q.val →
      modRow (cond m c) (m (c.tc.loc main_arg2)) (m (c.tc.loc main_arg3)) (layer t) p (col t q) = rows m c j := by
    intro j h0 h1 h2
    have a0 : layer t = j 0 := Fin.ext h0.symm
    have a1 : p = j 1 := Fin.ext h1.symm
    have a2 : col t q = j 2 := Fin.ext h2.symm
    unfold rows
    rw [a0, a1, a2]
  exact key _ e0 e1 e2

end Cert.Kernel5Ideal.Ada

namespace Cert.Reference5Ideal.Ada
open Idealize.ShloMosaic Idealize.ShloMosaic.TcCoe
open Cert.Reference5Ideal Cert.Reference5Ideal.Gen
open Cert.Ada (modRow)

/-- The reference's term, from any conditions. -/
def term {F : FTy → Type} [FloatOps F] (x : Vec F S16x1024 .f32) (w : Vec F S2x1024x6144 .f32) (b : Vec F S2x6144 .f32) : Vec F S2x16x6144 .f32 :=
  addf (transpose S2x16x6144 [0, 2, 1] (Host.dotGeneral dot_S2x1024x6144_S16x1024_S2x6144x16_1_1_02_0_n_n none w
    (mulf x (Host.divf (broadcastInDim S16x1024 ![] bcast_S_S16x1024 (constant S_ .f32 0x3F800000#32))
      (addf (broadcastInDim S16x1024 ![] bcast_S_S16x1024 (constant S_ .f32 0x3F800000#32)) (Host.exp (Host.negf x))))))
    transposes_S2x6144x16_S2x16x6144_0_2_1)
    (broadcastInDim S2x16x6144 ![0, 1, 2] bcast_S2x1x6144_S2x16x6144_0_1_2 (broadcastInDim S2x1x6144 ![0, 2] bcast_S2x6144_S2x1x6144_0_2 b))

theorem term_at (x : Vec Ideal S16x1024 .f32) (w : Vec Ideal S2x1024x6144 .f32) (b : Vec Ideal S2x6144 .f32)
    (l : Fin 2) (r : Fin 16) (n : Fin 6144) : term x w b (ix3 l r n) = modRow x w b l r n := by
  unfold term
  clean_types
  pointwise
  unfold modRow
  refine congrArg (· + b (ix2 l n)) (Finset.sum_congr rfl fun k _ => ?_)
  rw [mul_comm]
  rfl

end Cert.Reference5Ideal.Ada
end
-- ==== Proof.AdaAlgebraic.lean ====
module

public import proofs.«01_k».proof.Proof.Gen.Kernel5.Frame
public import proofs.«01_k».proof.Proof.AdaValue
public import proofs.«01_k».proof.Defs
public import Idealize.ShloMosaic.Lib.Claim

@[expose] public section

/-!
  The call that makes the modulation rows: the frames of its three programs, and the value claim.
-/

noncomputable section

namespace Cert.Proof

open Idealize.ShloMosaic Idealize.ShloMosaic.TcCoe Idealize.SL.Sem

attribute [local instance] Cert.Kernel5.Gen.facts Cert.Kernel5Ideal.Gen.facts Cert.Reference5Ideal.Gen.facts

/-- The kernel's frame. -/
theorem frame_kernel5 : Cert.quiescent_Kernel5 := fun m ρ _ => Cert.Kernel5.Gen.frame m ρ

/-- The idealized kernel's frame. -/
theorem frame_ideal5 : Cert.quiescent_Kernel5Ideal := fun m ρ _ => Cert.Kernel5Ideal.Gen.frame m ρ

/-- The reference's frame. -/
theorem frame_ref5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem preserves5 : Cert.preserves_Kernel5_Kernel5Ideal := trivial

/-- The kernel's rows are the reference's. -/
theorem algebraic5 : Cert.algebraic_Kernel5Ideal_Reference5Ideal := by
  intro m g m' g' _ hargs
  refine ⟨fun c => Cert.Kernel5Ideal.Ada.rows m c, ?_, ?_⟩
  · refine (θ_run _ _ _).mono (fun r h c => ?_) (Cert.Kernel5Ideal.Value.run_blocks m g)
    exact ⟨(h c).1.trans (Cert.Kernel5Ideal.Ada.rows_arr m c), (h c).2⟩
  · refine (θ_run _ _ _).mono (fun r h c => ?_) (Cert.Reference5Ideal.Value.run (F := Ideal) m' g')
    obtain ⟨a0, a1, a2, a3⟩ := hargs c
    refine ⟨(h c).1.trans ?_, (h c).2⟩
    rw [a0, a1, a2, a3]
    funext j
    obtain ⟨l, p, q, rfl⟩ : ∃ l p q, j = ix3 l p q := ⟨j 0, j 1, j 2, eq_ix3 j⟩
    exact Cert.Reference5Ideal.Ada.term_at (Cert.Kernel5Ideal.Ada.cond m c) _ _ l p q

end Cert.Proof

end
-- ==== Proof.lean ====
module

public import proofs.«01_k».proof.Defs
public import proofs.«01_k».proof.Proof.Frames
public import proofs.«01_k».proof.Proof.Algebraic
public import proofs.«01_k».proof.Proof.ZeroAlgebraic
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.ProjAlgebraic
public import proofs.«01_k».proof.Proof.ProjOneAlgebraic
public import proofs.«01_k».proof.Proof.AdaAlgebraic

@[expose] public section

noncomputable section

namespace Cert.Proof

/-- Five calls, each with its ideal form and its reference: the last layer's mixture of experts, layer 0's, the first
    call of layer 0 and of layer 1, and the one that makes the modulation rows. Each of the three programs runs to the end; the call and its ideal form are one program; and the
    ideal call's results are the reference's, for the mixtures where no gate is negative. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, pre_facts,
    frame_kernel, frame_ideal, frame_ideal_pre, frame_ref, frame_ref_pre,
    frame_kernel2, frame_ideal2, frame_ideal2_pre, frame_ref2, frame_ref2_pre,
    frame_kernel3, frame_ideal3, frame_ref3, frame_kernel4, frame_ideal4, frame_ref4,
    frame_kernel5, frame_ideal5, frame_ref5,
    preserves, algebraic, preserves2, algebraic2, preserves3, algebraic3, preserves4, algebraic4,
    preserves5, algebraic5⟩

end Cert.Proof

end
